-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x32768 : Shape := ⟨3, ![48, 1, 32768]⟩
abbrev S32768x8192 : Shape := ⟨2, ![32768, 8192]⟩
abbrev S8192 : Shape := ⟨1, ![8192]⟩
abbrev S48x32768 : Shape := ⟨2, ![48, 32768]⟩
abbrev S1x8192 : Shape := ⟨2, ![1, 8192]⟩
abbrev S48x8192 : Shape := ⟨2, ![48, 8192]⟩
abbrev S48x1 : Shape := ⟨2, ![48, 1]⟩
abbrev S512x8192 : Shape := ⟨2, ![512, 8192]⟩
abbrev S64x32768 : Shape := ⟨2, ![64, 32768]⟩
abbrev S64x8192 : Shape := ⟨2, ![64, 8192]⟩
abbrev S48x2048 : Shape := ⟨2, ![48, 2048]⟩
abbrev S48 : Shape := ⟨1, ![48]⟩
abbrev S48x256 : Shape := ⟨2, ![48, 256]⟩
abbrev S16x2048 : Shape := ⟨2, ![16, 2048]⟩
abbrev S64x512 : Shape := ⟨2, ![64, 512]⟩
abbrev S512x512 : Shape := ⟨2, ![512, 512]⟩
abbrev S48x512 : Shape := ⟨2, ![48, 512]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S48x1x32768, .bf16⟩
  | .hbm, ⟨1, _⟩ => ⟨S32768x8192, .fp8e4m3⟩
  | .hbm, ⟨2, _⟩ => ⟨S8192, .f32⟩
  | .hbm, ⟨3, _⟩ => ⟨S48x32768, .bf16⟩
  | .hbm, ⟨4, _⟩ => ⟨S1x8192, .f32⟩
  | .hbm, ⟨5, _⟩ => ⟨S48x8192, .bf16⟩
  | .hbm, ⟨6, _⟩ => ⟨S48x32768, .fp8e4m3⟩
  | .hbm, ⟨7, _⟩ => ⟨S48x1, .f32⟩
  | .local _ .vmem, ⟨0, _⟩ => ⟨S48x32768, .bf16⟩
  | .local _ .vmem, ⟨1, _⟩ => ⟨S512x8192, .fp8e4m3⟩
  | .local _ .vmem, ⟨2, _⟩ => ⟨S512x8192, .fp8e4m3⟩
  | .local _ .vmem, ⟨3, _⟩ => ⟨S1x8192, .f32⟩
  | .local _ .vmem, ⟨4, _⟩ => ⟨S48x8192, .bf16⟩
  | .local _ .vmem, ⟨5, _⟩ => ⟨S48x32768, .fp8e4m3⟩
  | .local _ .vmem, ⟨6, _⟩ => ⟨S48x1, .f32⟩
  | .local _ .vmem, ⟨7, _⟩ => ⟨S64x32768, .fp8e4m3⟩
  | .local _ .vmem, ⟨8, _⟩ => ⟨S64x8192, .f32⟩
  | _, _ => ⟨S48x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_off1 (i : grid0.Coords) : Fin 2 → Nat :=
  let c0 : Index := 0#32
  let arg0 : BitVec 32 := BitVec.ofNat 32 (i 0).val
  let c512_i32 : BitVec 32 := 512#32
  let v3 : BitVec 32 := Scalar.muli arg0 c512_i32
  let v4 : BitVec 32 := v3
  let v5 : Index := Scalar.indexCast v4
  ![0, v5.toNat]
def k0_cond2 (i : grid0.Coords) : BitVec 1 :=
  let arg0 : BitVec 32 := BitVec.ofNat 32 (i 0).val
  let c63_i32 : BitVec 32 := 63#32
  let v119 : BitVec 1 := Scalar.cmpi .eq arg0 c63_i32
  let v120 : BitVec 32 := Scalar.extui v119
  let c0_i32_97 : BitVec 32 := 0#32
  let v121 : BitVec 1 := Scalar.cmpi .ne v120 c0_i32_97
  v121

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x32768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x32768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S48x1x32768 : Shape := ⟨3, ![48, 1, 32768]⟩
abbrev S32768x8192 : Shape := ⟨2, ![32768, 8192]⟩
abbrev S8192 : Shape := ⟨1, ![8192]⟩
abbrev S48x32768 : Shape := ⟨2, ![48, 32768]⟩
abbrev S1x8192 : Shape := ⟨2, ![1, 8192]⟩
abbrev S48x8192 : Shape := ⟨2, ![48, 8192]⟩
abbrev S48x1 : Shape := ⟨2, ![48, 1]⟩
abbrev S48 : Shape := ⟨1, ![48]⟩

abbrev nBuf : Space → Nat
  | .hbm => 8
  | .vmem => 6
  | .smem => 0
  | _ => 0

abbrev bufTy : (tb : Table) → Fin (tcTables nBuf tb) → BufTy
  | .hbm, ⟨0, _⟩ => ⟨S48x1x32768, .bf16⟩
  | .hbm, ⟨1, _⟩ => ⟨S32768x8192, .fp8e4m3⟩
  | .hbm, ⟨2, _⟩ => ⟨S8192, .f32⟩
  | .hbm, ⟨3, _⟩ => ⟨S48x32768, .bf16⟩
  | .hbm, ⟨4, _⟩ => ⟨S1x8192, .f32⟩
  | .hbm, ⟨5, _⟩ => ⟨S48x8192, .bf16⟩
  | .hbm, ⟨6, _⟩ => ⟨S48x32768, .fp8e4m3⟩
  | .hbm, ⟨7, _⟩ => ⟨S48x1, .f32⟩
  | .local _ .vmem, ⟨0, _⟩ => ⟨S48x32768, .bf16⟩
  | .local _ .vmem, ⟨1, _⟩ => ⟨S32768x8192, .fp8e4m3⟩
  | .local _ .vmem, ⟨2, _⟩ => ⟨S1x8192, .f32⟩
  | .local _ .vmem, ⟨3, _⟩ => ⟨S48x8192, .bf16⟩
  | .local _ .vmem, ⟨4, _⟩ => ⟨S48x32768, .fp8e4m3⟩
  | .local _ .vmem, ⟨5, _⟩ => ⟨S48x1, .f32⟩
  | _, _ => ⟨S48x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S48x32768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x32768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RunBits.Shared.lean ====
/- What the three runs of the kernel's body are stated over: the branch conditions in closed form
   over the grid points, where each output window is stored into and written back, the staging and scratch buffers. -/
module

public import proofs.«01_k».proof.Proof.Gen.Kernel.Frame
public import proofs.«01_k».proof.Proof.Gen.Kernel.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.Kernel.Tracked

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cfg0.idle 3 (grid0.coords t) = false := by decide +kernel
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8000000000000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the last point the body stores nothing into output 4: it was stored at the first point. -/
theorem idleAt0_4_C : ∀ t : Fin cfg0.N, ¬cond0_0 (grid0.coords t) → cond0_1 (grid0.coords t) → cfg0.idle 4 (grid0.coords t) = true := by decide +kernel
/-- Output 4 is written back at the last point. -/
theorem flushAt0_4_C : ∀ t : Fin cfg0.N, ¬cond0_0 (grid0.coords t) → cond0_1 (grid0.coords t) → (cfg0.win 4).flush t = true := by decide +kernel
/-- At the points of case C, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_C : ∀ t : Fin cfg0.N, ¬cond0_0 (grid0.coords t) → cond0_1 (grid0.coords t) → cfg0.fresh 4 t.val = false := by
  intro t; rw [fresh0_4_eq t]; revert t; decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x8000000000000000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the last point the body stores nothing into output 5: it was stored at the first point. -/
theorem idleAt0_5_C : ∀ t : Fin cfg0.N, ¬cond0_0 (grid0.coords t) → cond0_1 (grid0.coords t) → cfg0.idle 5 (grid0.coords t) = true := by decide +kernel
/-- Output 5 is written back at the last point. -/
theorem flushAt0_5_C : ∀ t : Fin cfg0.N, ¬cond0_0 (grid0.coords t) → cond0_1 (grid0.coords t) → (cfg0.win 5).flush t = true := by decide +kernel
/-- At the points of case C, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_C : ∀ t : Fin cfg0.N, ¬cond0_0 (grid0.coords t) → cond0_1 (grid0.coords t) → cfg0.fresh 5 t.val = false := by
  intro t; rw [fresh0_5_eq t]; revert t; decide +kernel

/-! ## The kernel body on any staging memrefs: a subtype the run finds -/

/-- One staging buffer of output window 3, through which its contents are stated (`View.read_writes_of_cover`: the
    choice does not matter). -/
abbrev VO0_3 : View sig .tc .vmem S48x8192 .bf16 := (Memref.whole cc0_stg3_0 : Memref sig .tc .vmem S48x8192 .bf16).view
/-- One staging buffer of output window 4, through which its contents are stated (`View.read_writes_of_cover`: the
    choice does not matter). -/
abbrev VO0_4 : View sig .tc .vmem S48x32768 .fp8e4m3 := (Memref.whole cc0_stg4_0 : Memref sig .tc .vmem S48x32768 .fp8e4m3).view
/-- One staging buffer of output window 5, through which its contents are stated (`View.read_writes_of_cover`: the
    choice does not matter). -/
abbrev VO0_5 : View sig .tc .vmem S48x1 .f32 := (Memref.whole cc0_stg5_0 : Memref sig .tc .vmem S48x1 .f32).view
/-- Each window's current staging memref at point `t`, spelled as the pipeline passes it (`bodyAt0`), and its wholeness. -/
abbrev ms0_0 (t : Fin cfg0.N) : Memref sig .tc .vmem S48x32768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x32768 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S64x32768 .fp8e4m3 := Memref.whole cc0_scratch0
abbrev scM0_1 : Memref sig .tc .vmem S64x8192 .f32 := Memref.whole cc0_scratch1
/-- The scratch `arg7` the kernel carries between points, as a view: what it holds is stated through it. -/
abbrev VS0_0 : View sig .tc .vmem S64x32768 .fp8e4m3 := scM0_0.view
/-- The scratch `arg8` the kernel carries between points, as a view: what it holds is stated through it. -/
abbrev VS0_1 : View sig .tc .vmem S64x8192 .f32 := scM0_1.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Tracked

end
-- ==== Proof.RunBits.First.lean ====
/- The run of the kernel's body at the first grid point: it quantises the rows, stores the codes and
   the scale, clears the accumulator and adds the first block's product. -/
module

public import proofs.«01_k».proof.Proof.RunBits.Shared

@[expose] public section

-- membership in a rectangle of production extents recurses once per coordinate of the long axes
set_option maxRecDepth 16384

noncomputable section

namespace Cert.Kernel.Tracked

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1240000 in
/-- What the body's stores leave in each output's staging memref, as pieces (last first) IN CASE A (`scf.if` 0 taken, `scf.if` 1 not taken: points 0), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) :
    Σ' (L3 : List (View.Piece (Elt F) S48x8192 .bf16)), Σ' (L4 : List (View.Piece (Elt F) S48x32768 .fp8e4m3)), Σ' (L5 : List (View.Piece (Elt F) S48x1 .f32)), Σ' (LS0 : List (View.Piece (Elt F) S64x32768 .fp8e4m3)), { LS1 : List (View.Piece (Elt F) S64x8192 .f32) //
      ∀ (xi3 : Vec F S48x8192 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_w8a8_linear_gelu i arg1 harg1 arg2 harg2 arg3 harg3 arg4 harg4 arg5 harg5 arg6 harg6 arg7 harg7 arg8 harg8) K } := by
  refine ⟨[], ?_, ?_, ?_, ?_, fun xi3 E K => ?run⟩
  case run =>
    simp only [cc0_w8a8_linear_gelu_eq_skeleton]; unfold cc0_w8a8_linear_gelu_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Tracked

end
-- ==== Proof.RunBits.Middle.lean ====
/- The run of the kernel's body at a middle grid point: it adds one block's product to the accumulator. -/
module

public import proofs.«01_k».proof.Proof.RunBits.First

@[expose] public section

-- membership in a rectangle of production extents recurses once per coordinate of the long axes
set_option maxRecDepth 16384

noncomputable section

namespace Cert.Kernel.Tracked

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (3, 4, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) :
    Σ' (L3 : List (View.Piece (Elt F) S48x8192 .bf16)), Σ' (L4 : List (View.Piece (Elt F) S48x32768 .fp8e4m3)), Σ' (L5 : List (View.Piece (Elt F) S48x1 .f32)), Σ' (LS0 : List (View.Piece (Elt F) S64x32768 .fp8e4m3)), { LS1 : List (View.Piece (Elt F) S64x8192 .f32) //
      ∀ (xi3 : Vec F S48x8192 .bf16) (xi4 : Vec F S48x32768 .fp8e4m3) (xi5 : Vec F S48x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_w8a8_linear_gelu i arg1 harg1 arg2 harg2 arg3 harg3 arg4 harg4 arg5 harg5 arg6 harg6 arg7 harg7 arg8 harg8) K } := by
  refine ⟨[], [], [], [], ?_, fun xi3 xi4 xi5 E K => ?run⟩
  case run =>
    simp only [cc0_w8a8_linear_gelu_eq_skeleton]; unfold cc0_w8a8_linear_gelu_skel
    simp only [k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end Cert.Kernel.Tracked

end
-- ==== Proof.RunBits.Last.lean ====
/- The run of the kernel's body at the last grid point: it adds the last block's product and stores
   the scaled, activated result. -/
module

public import proofs.«01_k».proof.Proof.RunBits.Middle

@[expose] public section

-- membership in a rectangle of production extents recurses once per coordinate of the long axes
set_option maxRecDepth 16384

noncomputable section

namespace Cert.Kernel.Tracked

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 63), WITH the
    proof that on whole staging memrefs — the inputs' at their contents, the outputs it reads before covering (4, 5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) :
    Σ' (L3 : List (View.Piece (Elt F) S48x8192 .bf16)), Σ' (L4 : List (View.Piece (Elt F) S48x32768 .fp8e4m3)), Σ' (L5 : List (View.Piece (Elt F) S48x1 .f32)), Σ' (LS0 : List (View.Piece (Elt F) S64x32768 .fp8e4m3)), { LS1 : List (View.Piece (Elt F) S64x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xo4 ∗ owns (c : Thread nD τ) arg6 fullShare xo5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_w8a8_linear_gelu i arg1 harg1 arg2 harg2 arg3 harg3 arg4 harg4 arg5 harg5 arg6 harg6 arg7 harg7 arg8 harg8) K } := by
  refine ⟨?_, [], [], [], ?_, fun E K => ?run⟩
  case run =>
    simp only [cc0_w8a8_linear_gelu_eq_skeleton]; unfold cc0_w8a8_linear_gelu_skel
    simp only [k0_part22_eq_skeleton, k0_part23_eq_skeleton, k0_part24_eq_skeleton, k0_part25_eq_skeleton, k0_part21_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end Cert.Kernel.Tracked

end
-- ==== Proof.RunBits.Tracked.lean ====
/- The kernel's frame with its outputs tracked: what the outputs and the two scratch buffers hold
   after each grid point, the body's obligation at a generic point, the run, and the frame claim. -/
module

public import proofs.«01_k».proof.Proof.RunBits.Last
public import Idealize.ShloMosaic.Lib.Claim

@[expose] public section

-- membership in a rectangle of production extents recurses once per coordinate of the long axes
set_option maxRecDepth 16384

noncomputable section

namespace Cert.Kernel.Tracked

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S48x8192 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1 x2).1)

/-- Case A's pieces for output 4 tile its block (16 stores of `S48x2048`, checked by the kernel's evaluation: Lib/Ring.lean `Piece.tiledL`, linear in the pieces, through a loop's `@[irreducible]` trip theorem too), so they cover it. -/
theorem cover0_A_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S48x32768.Idx) :
    ∃ pc ∈ (kernelRun0_A c i arg1 harg1 arg2 harg2 arg3 harg3 arg4 harg4 arg5 harg5 arg6 harg6 arg7 harg7 arg8 harg8 hc0 hc1 x0 x1 x2).2.1, y ∈ pc.1.set :=
  View.cover_of_tiledL (kernelRun0_A c i arg1 harg1 arg2 harg2 arg3 harg3 arg4 harg4 arg5 harg5 arg6 harg6 arg7 harg7 arg8 harg8 hc0 hc1 x0 x1 x2).2.1 S48x2048.size (by sl_kernel_rfl) y

/-- What case A leaves in output 4's staging buffer: its pieces read back over junk. -/
def out0_A_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S48x32768 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2).2.1)

/-- Case A's pieces for output 5 tile its block (1 store of `S48x1`, checked by the kernel's evaluation: Lib/Ring.lean `Piece.tiledL`, linear in the pieces, through a loop's `@[irreducible]` trip theorem too), so they cover it. -/
theorem cover0_A_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S48x1.Idx) :
    ∃ pc ∈ (kernelRun0_A c i arg1 harg1 arg2 harg2 arg3 harg3 arg4 harg4 arg5 harg5 arg6 harg6 arg7 harg7 arg8 harg8 hc0 hc1 x0 x1 x2).2.2.1, y ∈ pc.1.set :=
  View.cover_of_tiledL (kernelRun0_A c i arg1 harg1 arg2 harg2 arg3 harg3 arg4 harg4 arg5 harg5 arg6 harg6 arg7 harg7 arg8 harg8 hc0 hc1 x0 x1 x2).2.2.1 S48x1.size (by sl_kernel_rfl) y

/-- What case A leaves in output 5's staging buffer: its pieces read back over junk. -/
def out0_A_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S48x1 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2).2.2.1)

/-- Case A's pieces for scratch `arg7`, which the kernel carries between points, cover it: 32 pieces (stores and landed copies) of several sizes (`S16x2048`, `S48x2048`) tiling it when cut into blocks of `![16, 2048]` (Lib/Ring.lean `Piece.tiledBy`). -/
theorem scover0_A_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S64x32768.Idx) :
    ∃ pc ∈ (kernelRun0_A c i arg1 harg1 arg2 harg2 arg3 harg3 arg4 harg4 arg5 harg5 arg6 harg6 arg7 harg7 arg8 harg8 hc0 hc1 x0 x1 x2).2.2.2.1, y ∈ pc.1.set :=
  View.cover_of_tiledBy (kernelRun0_A c i arg1 harg1 arg2 harg2 arg3 harg3 arg4 harg4 arg5 harg5 arg6 harg6 arg7 harg7 arg8 harg8 hc0 hc1 x0 x1 x2).2.2.2.1 ![16, 2048] (by sl_kernel_rfl) y

/-- What case A leaves in scratch `arg7`: its pieces read back over junk. -/
def sout0_A_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S64x32768 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2).2.2.2.1)

/-- Case A's pieces for scratch `arg8`, which the kernel carries between points, cover it: one of them a store of the WHOLE buffer (Lib/Ring.lean `sl_whole_mem`). -/
theorem scover0_A_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S64x8192.Idx) :
    ∃ pc ∈ (kernelRun0_A c i arg1 harg1 arg2 harg2 arg3 harg3 arg4 harg4 arg5 harg5 arg6 harg6 arg7 harg7 arg8 harg8 hc0 hc1 x0 x1 x2).2.2.2.2.1, y ∈ pc.1.set :=
  View.cover_of_wholeMem (kernelRun0_A c i arg1 harg1 arg2 harg2 arg3 harg3 arg4 harg4 arg5 harg5 arg6 harg6 arg7 harg7 arg8 harg8 hc0 hc1 x0 x1 x2).2.2.2.2.1 (by sl_whole_mem) y

/-- What case A leaves in scratch `arg8`: its pieces read back over junk. -/
def sout0_A_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S64x8192 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2).2.2.2.2.1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) : Vec F S48x8192 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 x2 xs0 xs1).1)

/-- Case B stores nothing into output 4 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) (xo4 : Vec F S48x32768 .fp8e4m3) : Vec F S48x32768 .fp8e4m3 := xo4

/-- Case B stores nothing into output 5 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) (xo5 : Vec F S48x1 .f32) : Vec F S48x1 .f32 := xo5

/-- Case B stores nothing into scratch `arg7`: it holds what the point before left. -/
def sout0_B_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) : Vec F S64x32768 .fp8e4m3 := xs0

/-- Case B's pieces for scratch `arg8`, which the kernel carries between points, cover it: 16 pieces of `S64x512` tiling it (Lib/Ring.lean `Piece.tiledL`). -/
theorem scover0_B_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) (y : S64x8192.Idx) :
    ∃ pc ∈ (kernelRun0_B c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.2.2.2.1 S64x512.size (by sl_kernel_rfl) y

/-- What case B leaves in scratch `arg8`: its pieces read back over junk. -/
def sout0_B_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) : Vec F S64x8192 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 xs0 xs1).2.2.2.2.1)

/-- Case C's pieces for output 3 tile its block (16 stores of `S48x512`, checked by the kernel's evaluation: Lib/Ring.lean `Piece.tiledL`, linear in the pieces, through a loop's `@[irreducible]` trip theorem too), so they cover it. -/
theorem cover0_C_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) (y : S48x8192.Idx) :
    ∃ pc ∈ (kernelRun0_C c i arg1 harg1 arg2 harg2 arg3 harg3 arg4 harg4 arg5 harg5 arg6 harg6 arg7 harg7 arg8 harg8 hc0 hc1 x0 x1 x2 xo4 xo5 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 xo4 xo5 xs0 xs1).1 S48x512.size (by sl_kernel_rfl) y

/-- What case C leaves in output 3's staging buffer: its pieces read back over junk. -/
def out0_C_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S48x8192 .bf16 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 x2 xo4 xo5 xs0 xs1).1)

/-- Case C stores nothing into output 4, a live window: its staging buffer holds what the point before left. -/
def out0_C_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S48x32768 .fp8e4m3 := xo4

/-- Case C stores nothing into output 5, a live window: its staging buffer holds what the point before left. -/
def out0_C_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S48x1 .f32 := xo5

/-- Case C stores nothing into scratch `arg7`: it holds what the point before left. -/
def sout0_C_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S64x32768 .fp8e4m3 := xs0

/-- Case C's pieces for scratch `arg8`, which the kernel carries between points, cover it: 16 pieces of `S64x512` tiling it (Lib/Ring.lean `Piece.tiledL`). -/
theorem scover0_C_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) (y : S64x8192.Idx) :
    ∃ pc ∈ (kernelRun0_C c i arg1 harg1 arg2 harg2 arg3 harg3 arg4 harg4 arg5 harg5 arg6 harg6 arg7 harg7 arg8 harg8 hc0 hc1 x0 x1 x2 xo4 xo5 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xo4 xo5 xs0 xs1).2.2.2.2.1 S64x512.size (by sl_kernel_rfl) y

/-- What case C leaves in scratch `arg8`: its pieces read back over junk. -/
def sout0_C_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S64x8192 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 xo4 xo5 xs0 xs1).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S48x8192 .bf16 × Vec F S48x32768 .fp8e4m3 × Vec F S48x1 .f32 × Vec F S64x32768 .fp8e4m3 × Vec F S64x8192 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 64 = 63 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2 (outsAt0 c n (Nat.lt_of_succ_lt hn)).2.1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 64 = 0) (h1 : ¬t.val % 64 = 63) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 64 := lt_of_lt_of_eq t.isLt (show cfg0.N = 64 from N_0)
  rw [after0_4, after0_4]
  by_cases h0 : t.val % 64 = 0
  · by_cases h1 : t.val % 64 = 63
    · exfalso; omega
    · rw [liveAt0_4_A t ((hcond0_0 t).mpr h0) (fun h => h1 ((hcond0_1 t).mp h))] at hi
      exact absurd hi Bool.false_ne_true
  · by_cases h1 : t.val % 64 = 63
    · rw [outsAt0_C m c t h0 h1]
      dsimp only
      unfold out0_C_4
      rfl
    · rw [outsAt0_B m c t h0 h1]
      dsimp only
      unfold out0_B_4
      rfl

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 64 := lt_of_lt_of_eq t.isLt (show cfg0.N = 64 from N_0)
  rw [after0_5, after0_5]
  by_cases h0 : t.val % 64 = 0
  · by_cases h1 : t.val % 64 = 63
    · exfalso; omega
    · rw [liveAt0_5_A t ((hcond0_0 t).mpr h0) (fun h => h1 ((hcond0_1 t).mp h))] at hi
      exact absurd hi Bool.false_ne_true
  · by_cases h1 : t.val % 64 = 63
    · rw [outsAt0_C m c t h0 h1]
      dsimp only
      unfold out0_C_5
      rfl
    · rw [outsAt0_B m c t h0 h1]
      dsimp only
      unfold out0_B_5
      rfl
/-- At a point of case C output 4's current staging buffer holds what the point before left: the buffer is not fresh
    there (`notFresh0_4_C`: stored into since the region's entry or the last write-back, carried through the points that
    leave it idle by `hcarry0_4`; Lib/Pipeline/TableIdle.lean `Dat.before_out_traj`). -/
theorem before0_4_C (c : Dev nD) (t : Fin cfg0.N) (h0 : ¬t.val % 64 = 0) (h1 : t.val % 64 = 63) (d) :
    (dats m 0 c).before 4 t d = (outsAt0 m c (t.val - 1) (Nat.lt_of_le_of_lt (Nat.sub_le _ _) t.isLt)).2.1 := by
  rw [Dat.before_out_traj _ 4 rfl (fun _ _ => rfl) (hcarry0_4 m c) t.val t rfl d,
    if_neg (by rw [notFresh0_4_C t (fun h => h0 ((hcond0_0 t).mp h)) ((hcond0_1 t).mpr h1)]; exact Bool.false_ne_true)]
  dsimp only [dats]
/-- At a point of case C output 5's current staging buffer holds what the point before left: the buffer is not fresh
    there (`notFresh0_5_C`: stored into since the region's entry or the last write-back, carried through the points that
    leave it idle by `hcarry0_5`; Lib/Pipeline/TableIdle.lean `Dat.before_out_traj`). -/
theorem before0_5_C (c : Dev nD) (t : Fin cfg0.N) (h0 : ¬t.val % 64 = 0) (h1 : t.val % 64 = 63) (d) :
    (dats m 0 c).before 5 t d = (outsAt0 m c (t.val - 1) (Nat.lt_of_le_of_lt (Nat.sub_le _ _) t.isLt)).2.2.1 := by
  rw [Dat.before_out_traj _ 5 rfl (fun _ _ => rfl) (hcarry0_5 m c) t.val t rfl d,
    if_neg (by rw [notFresh0_5_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h))], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      by_cases hz : t.val = 0
      · rw [PhiS_castSucc m c t, PhiS_zero m c _ _ hz, PhiA0_eq]
        rw [outsAt0_A m c t h0 h1]
        unfold out0_A_4 out0_A_5 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _)
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1)], after0_3]
      rw [show (dats m 0 c).leavesExact 4 t = owns (c : Thread nD τ) (ms0_4 t) fullShare ((dats m 0 c).after 4 t) from by
      unfold Dat.leavesExact; rw [idleAt0_4_C t (fun h => h0 ((hcond0_0 t).mp h)) ((hcond0_1 t).mpr h1), flushAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
      unfold Dat.leavesExact; rw [idleAt0_5_C t (fun h => h0 ((hcond0_0 t).mp h)) ((hcond0_1 t).mpr h1), flushAt0_5_C t (fun h => h0 ((hcond0_0 t).mp h)) ((hcond0_1 t).mpr h1)], after0_5]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        simp only [before0_4_C m c t h0 h1, before0_5_C m c t h0 h1]
        unfold out0_C_3 out0_C_4 out0_C_5 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _ _).2.2.2.2.2 Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        isplitl [H4]; · iexact H4
        iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _).2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim, at any `F`: from any memory, every run of the program ends, the argument arrays unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Tracked

end
-- ==== Proof.Run.Shared.lean ====
/- What the three runs of the idealized kernel's body are stated over: the branch conditions in closed form
   over the grid points, where each output window is stored into and written back, the staging and scratch buffers. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.KernelIdeal.Tracked

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cfg0.idle 3 (grid0.coords t) = false := by decide +kernel
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8000000000000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the last point the body stores nothing into output 4: it was stored at the first point. -/
theorem idleAt0_4_C : ∀ t : Fin cfg0.N, ¬cond0_0 (grid0.coords t) → cond0_1 (grid0.coords t) → cfg0.idle 4 (grid0.coords t) = true := by decide +kernel
/-- Output 4 is written back at the last point. -/
theorem flushAt0_4_C : ∀ t : Fin cfg0.N, ¬cond0_0 (grid0.coords t) → cond0_1 (grid0.coords t) → (cfg0.win 4).flush t = true := by decide +kernel
/-- At the points of case C, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_C : ∀ t : Fin cfg0.N, ¬cond0_0 (grid0.coords t) → cond0_1 (grid0.coords t) → cfg0.fresh 4 t.val = false := by
  intro t; rw [fresh0_4_eq t]; revert t; decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x8000000000000000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the last point the body stores nothing into output 5: it was stored at the first point. -/
theorem idleAt0_5_C : ∀ t : Fin cfg0.N, ¬cond0_0 (grid0.coords t) → cond0_1 (grid0.coords t) → cfg0.idle 5 (grid0.coords t) = true := by decide +kernel
/-- Output 5 is written back at the last point. -/
theorem flushAt0_5_C : ∀ t : Fin cfg0.N, ¬cond0_0 (grid0.coords t) → cond0_1 (grid0.coords t) → (cfg0.win 5).flush t = true := by decide +kernel
/-- At the points of case C, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_C : ∀ t : Fin cfg0.N, ¬cond0_0 (grid0.coords t) → cond0_1 (grid0.coords t) → cfg0.fresh 5 t.val = false := by
  intro t; rw [fresh0_5_eq t]; revert t; decide +kernel

/-! ## The kernel body on any staging memrefs: a subtype the run finds -/

/-- One staging buffer of output window 3, through which its contents are stated (`View.read_writes_of_cover`: the
    choice does not matter). -/
abbrev VO0_3 : View sig .tc .vmem S48x8192 .bf16 := (Memref.whole cc0_stg3_0 : Memref sig .tc .vmem S48x8192 .bf16).view
/-- One staging buffer of output window 4, through which its contents are stated (`View.read_writes_of_cover`: the
    choice does not matter). -/
abbrev VO0_4 : View sig .tc .vmem S48x32768 .fp8e4m3 := (Memref.whole cc0_stg4_0 : Memref sig .tc .vmem S48x32768 .fp8e4m3).view
/-- One staging buffer of output window 5, through which its contents are stated (`View.read_writes_of_cover`: the
    choice does not matter). -/
abbrev VO0_5 : View sig .tc .vmem S48x1 .f32 := (Memref.whole cc0_stg5_0 : Memref sig .tc .vmem S48x1 .f32).view
/-- Each window's current staging memref at point `t`, spelled as the pipeline passes it (`bodyAt0`), and its wholeness. -/
abbrev ms0_0 (t : Fin cfg0.N) : Memref sig .tc .vmem S48x32768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x32768 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S64x32768 .fp8e4m3 := Memref.whole cc0_scratch0
abbrev scM0_1 : Memref sig .tc .vmem S64x8192 .f32 := Memref.whole cc0_scratch1
/-- The scratch `arg7` the kernel carries between points, as a view: what it holds is stated through it. -/
abbrev VS0_0 : View sig .tc .vmem S64x32768 .fp8e4m3 := scM0_0.view
/-- The scratch `arg8` the kernel carries between points, as a view: what it holds is stated through it. -/
abbrev VS0_1 : View sig .tc .vmem S64x8192 .f32 := scM0_1.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Tracked

end
-- ==== Proof.Run.First.lean ====
/- The run of the idealized kernel's body at the first grid point: it quantises the rows, stores the codes and
   the scale, clears the accumulator and adds the first block's product. -/
module

public import proofs.«01_k».proof.Proof.Run.Shared

@[expose] public section

-- membership in a rectangle of production extents recurses once per coordinate of the long axes
set_option maxRecDepth 16384

noncomputable section

namespace Cert.KernelIdeal.Tracked

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1240000 in
/-- What the body's stores leave in each output's staging memref, as pieces (last first) IN CASE A (`scf.if` 0 taken, `scf.if` 1 not taken: points 0), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) :
    Σ' (L3 : List (View.Piece (Elt F) S48x8192 .bf16)), Σ' (L4 : List (View.Piece (Elt F) S48x32768 .fp8e4m3)), Σ' (L5 : List (View.Piece (Elt F) S48x1 .f32)), Σ' (LS0 : List (View.Piece (Elt F) S64x32768 .fp8e4m3)), { LS1 : List (View.Piece (Elt F) S64x8192 .f32) //
      ∀ (xi3 : Vec F S48x8192 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_w8a8_linear_gelu i arg1 harg1 arg2 harg2 arg3 harg3 arg4 harg4 arg5 harg5 arg6 harg6 arg7 harg7 arg8 harg8) K } := by
  refine ⟨[], ?_, ?_, ?_, ?_, fun xi3 E K => ?run⟩
  case run =>
    simp only [cc0_w8a8_linear_gelu_eq_skeleton]; unfold cc0_w8a8_linear_gelu_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Tracked

end
-- ==== Proof.Run.Middle.lean ====
/- The run of the idealized kernel's body at a middle grid point: it adds one block's product to the accumulator. -/
module

public import proofs.«01_k».proof.Proof.Run.First

@[expose] public section

-- membership in a rectangle of production extents recurses once per coordinate of the long axes
set_option maxRecDepth 16384

noncomputable section

namespace Cert.KernelIdeal.Tracked

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (3, 4, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) :
    Σ' (L3 : List (View.Piece (Elt F) S48x8192 .bf16)), Σ' (L4 : List (View.Piece (Elt F) S48x32768 .fp8e4m3)), Σ' (L5 : List (View.Piece (Elt F) S48x1 .f32)), Σ' (LS0 : List (View.Piece (Elt F) S64x32768 .fp8e4m3)), { LS1 : List (View.Piece (Elt F) S64x8192 .f32) //
      ∀ (xi3 : Vec F S48x8192 .bf16) (xi4 : Vec F S48x32768 .fp8e4m3) (xi5 : Vec F S48x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_w8a8_linear_gelu i arg1 harg1 arg2 harg2 arg3 harg3 arg4 harg4 arg5 harg5 arg6 harg6 arg7 harg7 arg8 harg8) K } := by
  refine ⟨[], [], [], [], ?_, fun xi3 xi4 xi5 E K => ?run⟩
  case run =>
    simp only [cc0_w8a8_linear_gelu_eq_skeleton]; unfold cc0_w8a8_linear_gelu_skel
    simp only [k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end Cert.KernelIdeal.Tracked

end
-- ==== Proof.Run.Last.lean ====
/- The run of the idealized kernel's body at the last grid point: it adds the last block's product and stores
   the scaled, activated result. -/
module

public import proofs.«01_k».proof.Proof.Run.Middle

@[expose] public section

-- membership in a rectangle of production extents recurses once per coordinate of the long axes
set_option maxRecDepth 16384

noncomputable section

namespace Cert.KernelIdeal.Tracked

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 63), WITH the
    proof that on whole staging memrefs — the inputs' at their contents, the outputs it reads before covering (4, 5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) :
    Σ' (L3 : List (View.Piece (Elt F) S48x8192 .bf16)), Σ' (L4 : List (View.Piece (Elt F) S48x32768 .fp8e4m3)), Σ' (L5 : List (View.Piece (Elt F) S48x1 .f32)), Σ' (LS0 : List (View.Piece (Elt F) S64x32768 .fp8e4m3)), { LS1 : List (View.Piece (Elt F) S64x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xo4 ∗ owns (c : Thread nD τ) arg6 fullShare xo5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_w8a8_linear_gelu i arg1 harg1 arg2 harg2 arg3 harg3 arg4 harg4 arg5 harg5 arg6 harg6 arg7 harg7 arg8 harg8) K } := by
  refine ⟨?_, [], [], [], ?_, fun E K => ?run⟩
  case run =>
    simp only [cc0_w8a8_linear_gelu_eq_skeleton]; unfold cc0_w8a8_linear_gelu_skel
    simp only [k0_part22_eq_skeleton, k0_part23_eq_skeleton, k0_part24_eq_skeleton, k0_part25_eq_skeleton, k0_part21_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end Cert.KernelIdeal.Tracked

end
-- ==== Proof.Run.Tracked.lean ====
/- The idealized kernel's frame with its outputs tracked: what the outputs and the two scratch buffers hold
   after each grid point, the body's obligation at a generic point, the run, and the frame claim. -/
module

public import proofs.«01_k».proof.Proof.Run.Last
public import Idealize.ShloMosaic.Lib.Claim

@[expose] public section

-- membership in a rectangle of production extents recurses once per coordinate of the long axes
set_option maxRecDepth 16384

noncomputable section

namespace Cert.KernelIdeal.Tracked

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S48x8192 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1 x2).1)

/-- Case A's pieces for output 4 tile its block (16 stores of `S48x2048`, checked by the kernel's evaluation: Lib/Ring.lean `Piece.tiledL`, linear in the pieces, through a loop's `@[irreducible]` trip theorem too), so they cover it. -/
theorem cover0_A_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S48x32768.Idx) :
    ∃ pc ∈ (kernelRun0_A c i arg1 harg1 arg2 harg2 arg3 harg3 arg4 harg4 arg5 harg5 arg6 harg6 arg7 harg7 arg8 harg8 hc0 hc1 x0 x1 x2).2.1, y ∈ pc.1.set :=
  View.cover_of_tiledL (kernelRun0_A c i arg1 harg1 arg2 harg2 arg3 harg3 arg4 harg4 arg5 harg5 arg6 harg6 arg7 harg7 arg8 harg8 hc0 hc1 x0 x1 x2).2.1 S48x2048.size (by sl_kernel_rfl) y

/-- What case A leaves in output 4's staging buffer: its pieces read back over junk. -/
def out0_A_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S48x32768 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2).2.1)

/-- Case A's pieces for output 5 tile its block (1 store of `S48x1`, checked by the kernel's evaluation: Lib/Ring.lean `Piece.tiledL`, linear in the pieces, through a loop's `@[irreducible]` trip theorem too), so they cover it. -/
theorem cover0_A_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S48x1.Idx) :
    ∃ pc ∈ (kernelRun0_A c i arg1 harg1 arg2 harg2 arg3 harg3 arg4 harg4 arg5 harg5 arg6 harg6 arg7 harg7 arg8 harg8 hc0 hc1 x0 x1 x2).2.2.1, y ∈ pc.1.set :=
  View.cover_of_tiledL (kernelRun0_A c i arg1 harg1 arg2 harg2 arg3 harg3 arg4 harg4 arg5 harg5 arg6 harg6 arg7 harg7 arg8 harg8 hc0 hc1 x0 x1 x2).2.2.1 S48x1.size (by sl_kernel_rfl) y

/-- What case A leaves in output 5's staging buffer: its pieces read back over junk. -/
def out0_A_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S48x1 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2).2.2.1)

/-- Case A's pieces for scratch `arg7`, which the kernel carries between points, cover it: 32 pieces (stores and landed copies) of several sizes (`S16x2048`, `S48x2048`) tiling it when cut into blocks of `![16, 2048]` (Lib/Ring.lean `Piece.tiledBy`). -/
theorem scover0_A_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S64x32768.Idx) :
    ∃ pc ∈ (kernelRun0_A c i arg1 harg1 arg2 harg2 arg3 harg3 arg4 harg4 arg5 harg5 arg6 harg6 arg7 harg7 arg8 harg8 hc0 hc1 x0 x1 x2).2.2.2.1, y ∈ pc.1.set :=
  View.cover_of_tiledBy (kernelRun0_A c i arg1 harg1 arg2 harg2 arg3 harg3 arg4 harg4 arg5 harg5 arg6 harg6 arg7 harg7 arg8 harg8 hc0 hc1 x0 x1 x2).2.2.2.1 ![16, 2048] (by sl_kernel_rfl) y

/-- What case A leaves in scratch `arg7`: its pieces read back over junk. -/
def sout0_A_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S64x32768 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2).2.2.2.1)

/-- Case A's pieces for scratch `arg8`, which the kernel carries between points, cover it: one of them a store of the WHOLE buffer (Lib/Ring.lean `sl_whole_mem`). -/
theorem scover0_A_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) (y : S64x8192.Idx) :
    ∃ pc ∈ (kernelRun0_A c i arg1 harg1 arg2 harg2 arg3 harg3 arg4 harg4 arg5 harg5 arg6 harg6 arg7 harg7 arg8 harg8 hc0 hc1 x0 x1 x2).2.2.2.2.1, y ∈ pc.1.set :=
  View.cover_of_wholeMem (kernelRun0_A c i arg1 harg1 arg2 harg2 arg3 harg3 arg4 harg4 arg5 harg5 arg6 harg6 arg7 harg7 arg8 harg8 hc0 hc1 x0 x1 x2).2.2.2.2.1 (by sl_whole_mem) y

/-- What case A leaves in scratch `arg8`: its pieces read back over junk. -/
def sout0_A_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec F S48x32768 .bf16) (x1 : Vec F S512x8192 .fp8e4m3) (x2 : Vec F S1x8192 .f32) : Vec F S64x8192 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2).2.2.2.2.1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) : Vec F S48x8192 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 x2 xs0 xs1).1)

/-- Case B stores nothing into output 4 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) (xo4 : Vec F S48x32768 .fp8e4m3) : Vec F S48x32768 .fp8e4m3 := xo4

/-- Case B stores nothing into output 5 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) (xo5 : Vec F S48x1 .f32) : Vec F S48x1 .f32 := xo5

/-- Case B stores nothing into scratch `arg7`: it holds what the point before left. -/
def sout0_B_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) : Vec F S64x32768 .fp8e4m3 := xs0

/-- Case B's pieces for scratch `arg8`, which the kernel carries between points, cover it: 16 pieces of `S64x512` tiling it (Lib/Ring.lean `Piece.tiledL`). -/
theorem scover0_B_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) (y : S64x8192.Idx) :
    ∃ pc ∈ (kernelRun0_B c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.2.2.2.1 S64x512.size (by sl_kernel_rfl) y

/-- What case B leaves in scratch `arg8`: its pieces read back over junk. -/
def sout0_B_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec F S48x32768 .bf16) (x1 : Vec F S512x8192 .fp8e4m3) (x2 : Vec F S1x8192 .f32) (xs0 : Vec F S64x32768 .fp8e4m3) (xs1 : Vec F S64x8192 .f32) : Vec F S64x8192 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 xs0 xs1).2.2.2.2.1)

/-- Case C's pieces for output 3 tile its block (16 stores of `S48x512`, checked by the kernel's evaluation: Lib/Ring.lean `Piece.tiledL`, linear in the pieces, through a loop's `@[irreducible]` trip theorem too), so they cover it. -/
theorem cover0_C_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) (y : S48x8192.Idx) :
    ∃ pc ∈ (kernelRun0_C c i arg1 harg1 arg2 harg2 arg3 harg3 arg4 harg4 arg5 harg5 arg6 harg6 arg7 harg7 arg8 harg8 hc0 hc1 x0 x1 x2 xo4 xo5 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 xo4 xo5 xs0 xs1).1 S48x512.size (by sl_kernel_rfl) y

/-- What case C leaves in output 3's staging buffer: its pieces read back over junk. -/
def out0_C_3 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S48x8192 .bf16 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 x2 xo4 xo5 xs0 xs1).1)

/-- Case C stores nothing into output 4, a live window: its staging buffer holds what the point before left. -/
def out0_C_4 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S48x32768 .fp8e4m3 := xo4

/-- Case C stores nothing into output 5, a live window: its staging buffer holds what the point before left. -/
def out0_C_5 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S48x1 .f32 := xo5

/-- Case C stores nothing into scratch `arg7`: it holds what the point before left. -/
def sout0_C_0 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S64x32768 .fp8e4m3 := xs0

/-- Case C's pieces for scratch `arg8`, which the kernel carries between points, cover it: 16 pieces of `S64x512` tiling it (Lib/Ring.lean `Piece.tiledL`). -/
theorem scover0_C_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) (y : S64x8192.Idx) :
    ∃ pc ∈ (kernelRun0_C c i arg1 harg1 arg2 harg2 arg3 harg3 arg4 harg4 arg5 harg5 arg6 harg6 arg7 harg7 arg8 harg8 hc0 hc1 x0 x1 x2 xo4 xo5 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xo4 xo5 xs0 xs1).2.2.2.2.1 S64x512.size (by sl_kernel_rfl) y

/-- What case C leaves in scratch `arg8`: its pieces read back over junk. -/
def sout0_C_1 (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec F S48x32768 .bf16) (x1 : Vec F S512x8192 .fp8e4m3) (x2 : Vec F S1x8192 .f32) (xo4 : Vec F S48x32768 .fp8e4m3) (xo5 : Vec F S48x1 .f32) (xs0 : Vec F S64x32768 .fp8e4m3) (xs1 : Vec F S64x8192 .f32) : Vec F S64x8192 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 xo4 xo5 xs0 xs1).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S48x8192 .bf16 × Vec F S48x32768 .fp8e4m3 × Vec F S48x1 .f32 × Vec F S64x32768 .fp8e4m3 × Vec F S64x8192 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 64 = 63 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2 (outsAt0 c n (Nat.lt_of_succ_lt hn)).2.1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 64 = 0) (h1 : ¬t.val % 64 = 63) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 64 := lt_of_lt_of_eq t.isLt (show cfg0.N = 64 from N_0)
  rw [after0_4, after0_4]
  by_cases h0 : t.val % 64 = 0
  · by_cases h1 : t.val % 64 = 63
    · exfalso; omega
    · rw [liveAt0_4_A t ((hcond0_0 t).mpr h0) (fun h => h1 ((hcond0_1 t).mp h))] at hi
      exact absurd hi Bool.false_ne_true
  · by_cases h1 : t.val % 64 = 63
    · rw [outsAt0_C m c t h0 h1]
      dsimp only
      unfold out0_C_4
      rfl
    · rw [outsAt0_B m c t h0 h1]
      dsimp only
      unfold out0_B_4
      rfl

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 64 := lt_of_lt_of_eq t.isLt (show cfg0.N = 64 from N_0)
  rw [after0_5, after0_5]
  by_cases h0 : t.val % 64 = 0
  · by_cases h1 : t.val % 64 = 63
    · exfalso; omega
    · rw [liveAt0_5_A t ((hcond0_0 t).mpr h0) (fun h => h1 ((hcond0_1 t).mp h))] at hi
      exact absurd hi Bool.false_ne_true
  · by_cases h1 : t.val % 64 = 63
    · rw [outsAt0_C m c t h0 h1]
      dsimp only
      unfold out0_C_5
      rfl
    · rw [outsAt0_B m c t h0 h1]
      dsimp only
      unfold out0_B_5
      rfl
/-- At a point of case C output 4's current staging buffer holds what the point before left: the buffer is not fresh
    there (`notFresh0_4_C`: stored into since the region's entry or the last write-back, carried through the points that
    leave it idle by `hcarry0_4`; Lib/Pipeline/TableIdle.lean `Dat.before_out_traj`). -/
theorem before0_4_C (c : Dev nD) (t : Fin cfg0.N) (h0 : ¬t.val % 64 = 0) (h1 : t.val % 64 = 63) (d) :
    (dats m 0 c).before 4 t d = (outsAt0 m c (t.val - 1) (Nat.lt_of_le_of_lt (Nat.sub_le _ _) t.isLt)).2.1 := by
  rw [Dat.before_out_traj _ 4 rfl (fun _ _ => rfl) (hcarry0_4 m c) t.val t rfl d,
    if_neg (by rw [notFresh0_4_C t (fun h => h0 ((hcond0_0 t).mp h)) ((hcond0_1 t).mpr h1)]; exact Bool.false_ne_true)]
  dsimp only [dats]
/-- At a point of case C output 5's current staging buffer holds what the point before left: the buffer is not fresh
    there (`notFresh0_5_C`: stored into since the region's entry or the last write-back, carried through the points that
    leave it idle by `hcarry0_5`; Lib/Pipeline/TableIdle.lean `Dat.before_out_traj`). -/
theorem before0_5_C (c : Dev nD) (t : Fin cfg0.N) (h0 : ¬t.val % 64 = 0) (h1 : t.val % 64 = 63) (d) :
    (dats m 0 c).before 5 t d = (outsAt0 m c (t.val - 1) (Nat.lt_of_le_of_lt (Nat.sub_le _ _) t.isLt)).2.2.1 := by
  rw [Dat.before_out_traj _ 5 rfl (fun _ _ => rfl) (hcarry0_5 m c) t.val t rfl d,
    if_neg (by rw [notFresh0_5_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h))], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      by_cases hz : t.val = 0
      · rw [PhiS_castSucc m c t, PhiS_zero m c _ _ hz, PhiA0_eq]
        rw [outsAt0_A m c t h0 h1]
        unfold out0_A_4 out0_A_5 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _ _)
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1)], after0_3]
      rw [show (dats m 0 c).leavesExact 4 t = owns (c : Thread nD τ) (ms0_4 t) fullShare ((dats m 0 c).after 4 t) from by
      unfold Dat.leavesExact; rw [idleAt0_4_C t (fun h => h0 ((hcond0_0 t).mp h)) ((hcond0_1 t).mpr h1), flushAt0_4_C t (fun h => h0 ((hcond0_0 t).mp h)) ((hcond0_1 t).mpr h1)], after0_4]
      rw [show (dats m 0 c).leavesExact 5 t = owns (c : Thread nD τ) (ms0_5 t) fullShare ((dats m 0 c).after 5 t) from by
      unfold Dat.leavesExact; rw [idleAt0_5_C t (fun h => h0 ((hcond0_0 t).mp h)) ((hcond0_1 t).mpr h1), flushAt0_5_C t (fun h => h0 ((hcond0_0 t).mp h)) ((hcond0_1 t).mpr h1)], after0_5]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        simp only [before0_4_C m c t h0 h1, before0_5_C m c t h0 h1]
        unfold out0_C_3 out0_C_4 out0_C_5 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _ _).2.2.2.2.2 Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        iintro ⟨H0, H1, H2, ⟨%e3, H3⟩, H4, H5, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _)
        isplitl [H4]; · iexact H4
        iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _).2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim, at any `F`: from any memory, every run of the program ends, the argument arrays unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Tracked

end
-- ==== Proof.Math.Exponent.lean ====
/- The exponent of a row's scale, as extended reals: the f32 patterns with a zero significand are the powers of two,
   counting how many of them are at most a value gives its exponent, and the same exponent is `⌊log₂ v⌋ + 1`. -/
module

public import Idealize.ShloMosaic.PureOps.Ideal

@[expose] public section

noncomputable section

namespace Cert.Scale

open Idealize.ShloMosaic

/-- The f32 pattern whose biased exponent field is `k` and whose sign and significand fields are zero. -/
def pattern (k : ℕ) : BitVec 32 := BitVec.ofNat 32 k <<< 23

/-- Its value. -/
def level (k : ℕ) : EReal := Ideal.ofBits .f32 (pattern k)

/-- The three fields of the pattern. -/
theorem pattern_fields : ∀ k : Fin 256, (pattern k).extractLsb' (8 + 23) 1 = 0#1
    ∧ ((pattern k).extractLsb' 23 8).toNat = k.val ∧ ((pattern k).extractLsb' 0 23).toNat = 0 := by
  decide +kernel

/-- A normal field `b` is the power `2^(b − 127)`. -/
theorem level_normal (b : ℕ) (h1 : 1 ≤ b) (h2 : b ≤ 254) : level b = (((2 : ℝ) ^ ((b : ℤ) - 127) : ℝ) : EReal) := by
  obtain ⟨hneg, hex, hfr⟩ := pattern_fields ⟨b, by omega⟩
  show Ideal.ieee 8 23 (pattern b) = _
  unfold Ideal.ieee
  simp only [hneg, hex, hfr]
  rw [if_neg (by omega), if_neg (by omega)]
  have h : ((b : ℤ) - (2 ^ (8 - 1) - 1) - ((23 : ℕ) : ℤ)) = ((b : ℤ) - 127) - 23 := by norm_num
  rw [h, zpow_sub₀ (by norm_num : (2 : ℝ) ≠ 0)]
  generalize (2 : ℝ) ^ ((b : ℤ) - 127) = x
  rw [EReal.coe_eq_coe_iff]
  norm_num
  ring

/-- Field zero is the value zero. -/
theorem level_zero : level 0 = 0 := by
  obtain ⟨hneg, hex, hfr⟩ := pattern_fields ⟨0, by omega⟩
  show Ideal.ieee 8 23 (pattern 0) = _
  unfold Ideal.ieee
  simp [hneg, hex, hfr]

/-- The last field is infinity. -/
theorem level_last : level 255 = ⊤ := by
  obtain ⟨hneg, hex, hfr⟩ := pattern_fields ⟨255, by omega⟩
  show Ideal.ieee 8 23 (pattern 255) = _
  unfold Ideal.ieee
  simp [hneg, hex, hfr]

/-- The patterns' values grow with the field. -/
theorem level_mono {k l : ℕ} (h : k ≤ l) (hl : l ≤ 255) : level k ≤ level l := by
  rcases Nat.eq_zero_or_pos k with rfl | hk
  · rw [level_zero]
    rcases Nat.eq_zero_or_pos l with rfl | hl0
    · rw [level_zero]
    · rcases Nat.lt_or_ge l 255 with h2 | h2
      · rw [level_normal l hl0 (by omega)]
        exact_mod_cast (zpow_pos (by norm_num : (0 : ℝ) < 2) _).le
      · obtain rfl : l = 255 := by omega
        rw [level_last]; exact le_top
  · rcases Nat.lt_or_ge l 255 with h2 | h2
    · rw [level_normal k hk (by omega), level_normal l (by omega) (by omega)]
      exact EReal.coe_le_coe_iff.mpr (zpow_le_zpow_right₀ (by norm_num : (1 : ℝ) ≤ 2) (by omega))
    · obtain rfl : l = 255 := by omega
      rw [level_last]; exact le_top

/-- A nonnegative value lies between two neighbouring patterns: the patterns at most it are the fields up to one `j`. -/
theorem exists_level (v : EReal) (hv : 0 ≤ v) : ∃ j ≤ 255, ∀ k ≤ 255, level k ≤ v ↔ k ≤ j := by
  classical
  refine ⟨Nat.findGreatest (fun k => level k ≤ v) 255, Nat.findGreatest_le _, fun k hk => ⟨fun h => Nat.le_findGreatest hk h, fun h => ?_⟩⟩
  have h0 : level (Nat.findGreatest (fun k => level k ≤ v) 255) ≤ v :=
    Nat.findGreatest_spec (P := fun k => level k ≤ v) (m := 0) (Nat.zero_le _) (by rw [level_zero]; exact hv)
  exact (level_mono h (Nat.findGreatest_le _)).trans h0

/-- The reference's exponent of `v`: `⌊log v / log 2⌋ + 1`, at most 128. -/
def logExp (v : EReal) : EReal :=
  min (Ideal.liftRound Int.floor (Ideal.div (Ideal.log v) (Ideal.log ((2 : ℝ) : EReal))) + 1) ((128 : ℝ) : EReal)

/-- Between the patterns `j` and `j + 1` the reference's exponent is `j − 126`. -/
theorem logExp_eq (v : EReal) (j : ℕ) (h1 : 1 ≤ j) (h2 : j ≤ 254) (hj : ∀ k ≤ 255, level k ≤ v ↔ k ≤ j) :
    logExp v = ((((j : ℤ) - 126 : ℤ) : ℝ) : EReal) := by
  have hlo : level j ≤ v := (hj j (by omega)).mpr le_rfl
  have hhi : v < level (j + 1) := lt_of_not_ge fun h => by have := (hj (j + 1) (by omega)).mp h; omega
  rw [level_normal j h1 h2] at hlo
  induction v with
  | bot => exact absurd hlo (by simp)
  | top => exact absurd hhi (by simp)
  | coe r =>
    have hlo' : (2 : ℝ) ^ ((j : ℤ) - 127) ≤ r := by exact_mod_cast hlo
    have hr : 0 < r := lt_of_lt_of_le (zpow_pos (by norm_num) _) hlo'
    have hl2 : (0 : ℝ) < Real.log 2 := Real.log_pos (by norm_num)
    have hfl : ((j : ℤ) - 127 : ℤ) ≤ ⌊Real.log r / Real.log 2⌋ := by
      rw [Int.le_floor]
      have := Real.log_le_log (zpow_pos (by norm_num) _) hlo'
      rw [Real.log_zpow] at this
      rwa [le_div_iff₀ hl2]
    unfold logExp
    rw [Ideal.log_coe, Ideal.log_coe, if_neg (not_le.mpr hr), if_neg (by norm_num), Ideal.div_coe hl2.ne',
      ← EReal.coe_mul, mul_one_div, Ideal.liftRound_coe, ← EReal.coe_one, ← EReal.coe_add]
    rw [← EReal.coe_strictMono.monotone.map_min]
    congr 1
    rcases Nat.lt_or_ge j 254 with h | h
    · rw [level_normal (j + 1) (by omega) (by omega)] at hhi
      have hhi' : r < (2 : ℝ) ^ (((j + 1 : ℕ) : ℤ) - 127) := by exact_mod_cast hhi
      have hfu : ⌊Real.log r / Real.log 2⌋ < ((j : ℤ) - 126 : ℤ) := by
        rw [Int.floor_lt]
        have := Real.log_lt_log hr hhi'
        rw [Real.log_zpow, ← div_lt_iff₀ hl2] at this
        have e : (((j + 1 : ℕ) : ℤ) - 127 : ℤ) = (j : ℤ) - 126 := by push_cast; ring
        rw [e] at this
        exact this
      have hf : ⌊Real.log r / Real.log 2⌋ = (j : ℤ) - 127 := by omega
      rw [hf, min_eq_left]
      · push_cast; ring
      · have : (j : ℝ) ≤ 254 := by exact_mod_cast h2
        push_cast; linarith
    · obtain rfl : j = 254 := by omega
      rw [min_eq_right]
      · norm_num
      · have : ((((254 : ℕ) : ℤ) - 127 : ℤ) : ℝ) ≤ (⌊Real.log r / Real.log 2⌋ : ℝ) := by exact_mod_cast hfl
        norm_num at this ⊢
        linarith

end Cert.Scale

end
-- ==== Proof.Math.Words.lean ====
/- The kernel's scale computed on words: counting patterns gives the exponent, two shifted fields give its power of two,
   and both agree with the reference's logarithm and power of two, whatever the row's largest absolute value. -/
module

public import proofs.«01_k».proof.Proof.Math.Exponent
public import Idealize.ShloMosaic.Lib.IndicatorCount
public import Idealize.ShloMosaic.Lib.Pointwise

@[expose] public section

noncomputable section

namespace Cert.Scale

open Idealize.ShloMosaic

/-- The number of patterns at most `v`, less one, as the kernel counts it on words. -/
def countWord (v : EReal) : BitVec 32 :=
  IntOp.subi (Finset.fold IntOp.addi (0#32) (fun x : Fin 256 => BitVec.setWidth 32 (BitVec.ofBool (decide
    (Ideal.ofBits .f32 (IntOp.shli ArithUnit.vector (BitVec.ofNat 32 x.val) 23#32) ≤ v)))) Finset.univ) 1#32

/-- The kernel's exponent word of a row whose largest absolute value is `a`, from the counted word `b`. -/
def expWord (a : EReal) (b : BitVec 32) : BitVec 32 :=
  if a = 0 then 0#32 else
    Scalar.select (IntOp.ori (IntOp.cmpi .sle b 0#32) (IntOp.cmpi .sge b 255#32)) 0#32 (IntOp.subi b 126#32)

/-- The kernel's power of two of an exponent word: the product of the powers of its two halves. -/
def powWord (e : BitVec 32) : EReal :=
  Ideal.ofBits .f32 (IntOp.shli ArithUnit.vector (IntOp.addi (IntOp.shrsi ArithUnit.vector e 1#32) 127#32) 23#32) *
  Ideal.ofBits .f32 (IntOp.shli ArithUnit.vector (IntOp.addi (IntOp.subi e (IntOp.shrsi ArithUnit.vector e 1#32)) 127#32) 23#32)

/-- The reference's exponent of a row whose largest absolute value is `a` and whose scaled value is `v`. -/
def refExp (a v : EReal) : EReal :=
  if a = 0 then 0 else
    Scalar.select (IntOp.ori (BitVec.ofBool (decide (v < Ideal.ofBits .f32 8388608#32)))
      (BitVec.ofBool (decide (v = Ideal.ofBits .f32 2139095040#32)))) 0
      (min (Ideal.liftRound Int.floor (Ideal.div (Ideal.log v) (Ideal.log (Ideal.ofBits .f32 1073741824#32))) + 1)
        (Ideal.ofBits .f32 1124073472#32))

/-- Shifting a lane number into the exponent field gives its pattern. -/
theorem shifted_lane : ∀ x : Fin 256, IntOp.shli ArithUnit.vector (BitVec.ofNat 32 x.val) 23#32 = pattern x.val := by
  decide +kernel

/-- The count of the patterns up to `j`, less one, is the word `j`. -/
theorem countWord_eq (v : EReal) (j : ℕ) (h : j ≤ 255) (hj : ∀ k ≤ 255, level k ≤ v ↔ k ≤ j) :
    countWord v = BitVec.ofNat 32 j := by
  unfold countWord
  rw [IndicatorCount.fold_addi_setWidth_eq_card]
  have e : (Finset.univ.filter fun x : Fin 256 => BitVec.ofBool (decide
      (Ideal.ofBits .f32 (IntOp.shli ArithUnit.vector (BitVec.ofNat 32 x.val) 23#32) ≤ v)) = 1#1)
      = Finset.univ.filter fun x : Fin 256 => x ≤ (⟨j, by omega⟩ : Fin 256) := by
    ext x
    simp only [Finset.mem_filter, Finset.mem_univ, true_and, shifted_lane, Fin.le_def]
    rw [← hj x.val (by omega)]
    show BitVec.ofBool (decide (level x.val ≤ v)) = 1#1 ↔ _
    by_cases hx : level x.val ≤ v <;> simp [hx]
  rw [e]
  have hc : (Finset.univ.filter fun x : Fin 256 => x ≤ (⟨j, by omega⟩ : Fin 256)).card = j + 1 := by
    rw [show (Finset.univ.filter fun x : Fin 256 => x ≤ (⟨j, by omega⟩ : Fin 256)) = Finset.Iic ⟨j, by omega⟩ from by ext; simp, Fin.card_Iic]
  rw [hc]
  show BitVec.ofNat 32 (j + 1) - 1#32 = BitVec.ofNat 32 j
  apply BitVec.eq_of_toNat_eq
  simp
  omega

/-- On a word between 1 and 254 the kernel keeps the exponent, elsewhere it is zero. -/
theorem select_word : ∀ x : Fin 256, Scalar.select (IntOp.ori (IntOp.cmpi .sle (BitVec.ofNat 32 x.val) 0#32)
      (IntOp.cmpi .sge (BitVec.ofNat 32 x.val) 255#32)) 0#32 (IntOp.subi (BitVec.ofNat 32 x.val) 126#32)
    = if x.val = 0 ∨ x.val = 255 then 0#32 else BitVec.ofNat 32 x.val - 126#32 := by
  decide +kernel

/-- The two halves' fields of an exponent word. -/
theorem halves : ∀ x : Fin 256, 1 ≤ x.val → x.val ≤ 254 →
    (IntOp.shli ArithUnit.vector (IntOp.addi (IntOp.shrsi ArithUnit.vector (BitVec.ofNat 32 x.val - 126#32) 1#32) 127#32) 23#32
      = pattern ((x.val + 128) / 2))
    ∧ (IntOp.shli ArithUnit.vector (IntOp.addi (IntOp.subi (BitVec.ofNat 32 x.val - 126#32)
        (IntOp.shrsi ArithUnit.vector (BitVec.ofNat 32 x.val - 126#32) 1#32)) 127#32) 23#32
      = pattern (x.val + 128 - (x.val + 128) / 2)) := by
  decide +kernel

/-- The two halves' fields of a negated exponent word. -/
theorem halves_neg : ∀ x : Fin 256, 1 ≤ x.val → x.val ≤ 254 →
    (IntOp.shli ArithUnit.vector (IntOp.addi (IntOp.shrsi ArithUnit.vector (IntOp.subi 0#32 (BitVec.ofNat 32 x.val - 126#32)) 1#32) 127#32) 23#32
      = pattern ((380 - x.val) / 2))
    ∧ (IntOp.shli ArithUnit.vector (IntOp.addi (IntOp.subi (IntOp.subi 0#32 (BitVec.ofNat 32 x.val - 126#32))
        (IntOp.shrsi ArithUnit.vector (IntOp.subi 0#32 (BitVec.ofNat 32 x.val - 126#32)) 1#32)) 127#32) 23#32
      = pattern (380 - x.val - (380 - x.val) / 2)) := by
  decide +kernel

/-- The product of two normal patterns' values. -/
theorem level_mul (a b : ℕ) (ha : 1 ≤ a) (ha' : a ≤ 254) (hb : 1 ≤ b) (hb' : b ≤ 254) :
    level a * level b = (((2 : ℝ) ^ ((a : ℤ) + b - 254) : ℝ) : EReal) := by
  rw [level_normal a ha ha', level_normal b hb hb', ← EReal.coe_mul, ← zpow_add₀ (by norm_num)]
  congr 2
  ring

/-- The power of the kernel's exponent word `j − 126`. -/
theorem powWord_eq (j : ℕ) (h1 : 1 ≤ j) (h2 : j ≤ 254) :
    powWord (BitVec.ofNat 32 j - 126#32) = (((2 : ℝ) ^ ((j : ℤ) - 126) : ℝ) : EReal) := by
  obtain ⟨e1, e2⟩ := halves ⟨j, by omega⟩ h1 h2
  dsimp only at e1 e2
  unfold powWord
  rw [e1, e2]
  show level _ * level _ = _
  rw [level_mul _ _ (by omega) (by omega) (by omega) (by omega)]
  congr 2
  omega

/-- The power of the kernel's negated exponent word. -/
theorem powWord_neg_eq (j : ℕ) (h1 : 1 ≤ j) (h2 : j ≤ 254) :
    powWord (IntOp.subi 0#32 (BitVec.ofNat 32 j - 126#32)) = (((2 : ℝ) ^ (126 - (j : ℤ)) : ℝ) : EReal) := by
  obtain ⟨e1, e2⟩ := halves_neg ⟨j, by omega⟩ h1 h2
  dsimp only at e1 e2
  unfold powWord
  rw [e1, e2]
  show level _ * level _ = _
  rw [level_mul _ _ (by omega) (by omega) (by omega) (by omega)]
  congr 2
  omega

/-- The power of the zero word is one, and so is that of its negation. -/
theorem powWord_zero : powWord 0#32 = 1 ∧ powWord (IntOp.subi 0#32 0#32) = 1 := by
  have h := powWord_eq 126 (by norm_num) (by norm_num)
  have e : BitVec.ofNat 32 126 - 126#32 = 0#32 := by decide
  rw [e] at h
  have e' : IntOp.subi 0#32 0#32 = 0#32 := by decide
  rw [e', h]
  norm_num

/-- The float constants of the reference's exponent. -/
theorem ofBits_two : Ideal.ofBits .f32 1073741824#32 = ((2 : ℝ) : EReal) := by
  have h := level_normal 128 (by norm_num) (by norm_num)
  have e : pattern 128 = 1073741824#32 := by decide
  unfold level at h
  rw [e] at h
  rw [h]; norm_num

/-- 128. -/
theorem ofBits_128 : Ideal.ofBits .f32 1124073472#32 = ((128 : ℝ) : EReal) := by
  have h := level_normal 134 (by norm_num) (by norm_num)
  have e : pattern 134 = 1124073472#32 := by decide
  unfold level at h
  rw [e] at h
  rw [h]; norm_num

/-- The least normal value. -/
theorem ofBits_one : Ideal.ofBits .f32 8388608#32 = level 1 := by
  unfold level; congr 1

/-- Infinity. -/
theorem ofBits_inf : Ideal.ofBits .f32 2139095040#32 = ⊤ := by
  rw [← level_last]; unfold level; congr 1

/-- The exponents agree: the reference's is the kernel's `j − 126`, or zero. -/
theorem refExp_eq (a v : EReal) (j : ℕ) (h : j ≤ 255) (hj : ∀ k ≤ 255, level k ≤ v ↔ k ≤ j) :
    refExp a v = if a = 0 then 0 else if j = 0 ∨ j = 255 then 0 else ((((j : ℤ) - 126 : ℤ) : ℝ) : EReal) := by
  unfold refExp
  by_cases ha : a = 0
  · simp [ha]
  rw [if_neg ha, if_neg ha, ofBits_one, ofBits_inf, ofBits_two, ofBits_128]
  have hlt : v < level 1 ↔ j = 0 := by
    rw [← not_le, hj 1 (by norm_num)]; omega
  have htop : v = ⊤ ↔ j = 255 := by
    rw [← top_le_iff, ← level_last, hj 255 le_rfl]; omega
  by_cases h0 : j = 0
  · rw [if_pos (Or.inl h0)]
    simp only [hlt.mpr h0, decide_true]
    by_cases ht : v = ⊤ <;> simp [ht, Scalar.select, IntOp.ori]
  · by_cases h5 : j = 255
    · rw [if_pos (Or.inr h5)]
      simp only [htop.mpr h5, decide_true]
      by_cases ht : (⊤ : EReal) < level 1 <;> simp [ht, Scalar.select, IntOp.ori]
    · rw [if_neg (by omega)]
      have h1 : ¬ v < level 1 := fun hc => h0 (hlt.mp hc)
      have h2 : ¬ v = ⊤ := fun hc => h5 (htop.mp hc)
      simp only [h1, h2, decide_false]
      have := logExp_eq v j (by omega) (by omega) hj
      unfold logExp at this
      rw [← this]
      simp [Scalar.select, IntOp.ori]

/-- The kernel's exponent word likewise. -/
theorem expWord_eq (a v : EReal) (j : ℕ) (h : j ≤ 255) (hj : ∀ k ≤ 255, level k ≤ v ↔ k ≤ j) :
    expWord a (countWord v) = if a = 0 then 0#32 else if j = 0 ∨ j = 255 then 0#32 else BitVec.ofNat 32 j - 126#32 := by
  unfold expWord
  rw [countWord_eq v j h hj, select_word ⟨j, by omega⟩]

/-- The real power of two of an integer exponent. -/
theorem exp2_int (n : ℤ) : FloatOps.exp2 (F := Ideal) (φ := .f32) (((n : ℝ) : EReal)) = (((2 : ℝ) ^ n : ℝ) : EReal) := by
  show Ideal.exp2 _ = _
  rw [Ideal.exp2_coe]
  congr 1
  exact Real.rpow_intCast 2 n

/-- The scales agree. -/
theorem scale_eq (a v : EReal) (hv : 0 ≤ v) :
    powWord (expWord a (countWord v)) = FloatOps.exp2 (F := Ideal) (φ := .f32) (refExp a v) := by
  obtain ⟨j, h, hj⟩ := exists_level v hv
  rw [expWord_eq a v j h hj, refExp_eq a v j h hj]
  have hz : FloatOps.exp2 (F := Ideal) (φ := .f32) (0 : EReal) = 1 := by
    have := exp2_int 0
    simpa using this
  by_cases ha : a = 0
  · rw [if_pos ha, if_pos ha, powWord_zero.1, hz]
  rw [if_neg ha, if_neg ha]
  by_cases h0 : j = 0 ∨ j = 255
  · rw [if_pos h0, if_pos h0, powWord_zero.1, hz]
  · rw [if_neg h0, if_neg h0, powWord_eq j (by omega) (by omega), exp2_int]

/-- The inverse scales agree. -/
theorem inv_eq (a v : EReal) (hv : 0 ≤ v) :
    powWord (IntOp.subi 0#32 (expWord a (countWord v))) = FloatOps.exp2 (F := Ideal) (φ := .f32) (0 - refExp a v) := by
  obtain ⟨j, h, hj⟩ := exists_level v hv
  rw [expWord_eq a v j h hj, refExp_eq a v j h hj]
  have hz : FloatOps.exp2 (F := Ideal) (φ := .f32) (0 - 0 : EReal) = 1 := by
    have := exp2_int 0
    simpa using this
  by_cases ha : a = 0
  · rw [if_pos ha, if_pos ha, powWord_zero.2, hz]
  rw [if_neg ha, if_neg ha]
  by_cases h0 : j = 0 ∨ j = 255
  · rw [if_pos h0, if_pos h0, powWord_zero.2, hz]
  · rw [if_neg h0, if_neg h0, powWord_neg_eq j (by omega) (by omega)]
    have e : (0 : EReal) - ((((j : ℤ) - 126 : ℤ) : ℝ) : EReal) = (((126 - (j : ℤ) : ℤ) : ℝ) : EReal) := by
      rw [← EReal.coe_zero, ← EReal.coe_sub]; congr 1; push_cast; ring
    rw [e, exp2_int]

end Cert.Scale

end
-- ==== Proof.Math.Spec.lean ====
module

public import proofs.«01_k».proof.Proof.Math.Words

/-!
# The values both programs hold

A row is quantised with a power-of-two scale found from its largest absolute value; the codes are multiplied
with the weights, rescaled by the row's scale and the column's scale, and passed through the tanh form of gelu.
-/

@[expose] public section

noncomputable section

namespace Cert.Scale

open Idealize.ShloMosaic

/-- The largest absolute value of a row. -/
def rowMax (r : Fin 32768 → EReal) : EReal :=
  Finset.fold max (Ideal.ofBits .f32 4286578688#32) (fun k => FloatOps.absf (F := Ideal) (φ := .f32) (r k)) Finset.univ

/-- The exponent of a row's scale. -/
def rowExp (r : Fin 32768 → EReal) : EReal :=
  refExp (rowMax r) (rowMax r * Ideal.ofBits .f32 991054117#32)

/-- The scale of a row. -/
def rowScale (r : Fin 32768 → EReal) : EReal := FloatOps.exp2 (F := Ideal) (φ := .f32) (rowExp r)

/-- The inverse of a row's scale. -/
def rowInv (r : Fin 32768 → EReal) : EReal := FloatOps.exp2 (F := Ideal) (φ := .f32) (0 - rowExp r)

/-- A value times an inverse scale, clamped to the largest code. -/
def codeOf (x inv : EReal) : EReal :=
  min (Ideal.ofBits FTy.f32 1138753536#32) (max (Ideal.ofBits FTy.f32 3286237184#32) (x * inv))

/-- The tanh form of gelu. -/
def gelu (z : EReal) : EReal :=
  z * (Ideal.ofBits .f32 1056964608#32 * (1 + Ideal.tanh (Ideal.ofBits .f32 1061962282#32 *
    (z + Ideal.ofBits .f32 1027024659#32 * (z * (z * z))))))

/-- One entry of the product: the row `r` of values, the column `w` of weights, the column's scale `s`. -/
def entry (r w : Fin 32768 → EReal) (s : EReal) : EReal :=
  gelu ((∑ k, codeOf (r k) (rowInv r) * w k) * rowScale r * s)

end Cert.Scale

end
-- ==== Proof.Value.Pieces.lean ====
module

public import proofs.«01_k».proof.Proof.Gen.KernelIdeal.Skeleton
public import proofs.«01_k».proof.Proof.Math.Spec
public import Idealize.ShloMosaic.Lib.Pipeline.Value
public import Idealize.ShloMosaic.Lib.Pointwise

/-!
# One chunk of the kernel, read at an index of the whole array

The kernel handles its wide arrays in chunks of columns. Each lemma here says that a chunk computed from chunks of
its operands is that chunk of one function of the whole operands.
-/

@[expose] public section

set_option maxRecDepth 16384

noncomputable section

namespace Cert.KernelIdeal.Value

open Cert.KernelIdeal Cert.KernelIdeal.Gen Cert.Scale
open Idealize.ShloMosaic
open Idealize.SL.Sem

/-- A chunk of codes is a chunk of the whole array of codes. -/
theorem codes_piece (o : ℕ) (inb) (s : FVec Ideal S48x1 .f32) (X : S48x32768.Idx → EReal) (j : S48x2048.Idx) :
    k0_pay12 (F := Ideal) s (View.ld (Val := Elt Ideal) (e' := .bf16) X (Rect.unit ![0, o] S48x2048.size inb)) j
      = (fun y : S48x32768.Idx => codeOf (X y) (s (ix2 (y 0) 0))) ((Rect.unit (s := S48x32768) ![0, o] S48x2048.size inb).emb j) := by
  have h : ∀ A : Vec Ideal S48x2048 .bf16, k0_pay12 (F := Ideal) s A j = codeOf (A j) (s (ix2 (j 0) 0)) := by
    intro A
    pointwise [k0_pay12]
    rfl
  refine (h _).trans ?_
  refine congrArg₂ codeOf rfl (congrArg s (congrArg (fun a : Fin 48 => (ix2 a 0 : S48x1.Idx)) (Fin.ext ?_)))
  show (j 0).val = 0 + 1 * (j 0).val
  omega

/-- A chunk of the accumulated product is a chunk of the whole accumulated product. -/
theorem acc_piece (o : ℕ) (inb) (inbw) (L : Vec Ideal S64x512 .fp8e4m3) (X : S64x8192.Idx → EReal) (W : S512x8192.Idx → EReal) (j : S64x512.Idx) :
    k0_pay1 (F := Ideal) L (View.ld (Val := Elt Ideal) (e' := .f32) X (Rect.unit ![0, o] S64x512.size inb))
      (View.ld (Val := Elt Ideal) (e' := .fp8e4m3) W (Rect.unit ![0, o] S512x512.size inbw)) j
      = (fun y : S64x8192.Idx => X y + ∑ k : Fin 512, L (ix2 (y 0) k) * W (ix2 k (y 1))) ((Rect.unit (s := S64x8192) ![0, o] S64x512.size inb).emb j) := by
  have h : ∀ (A : FVec Ideal S64x512 .f32) (B : Vec Ideal S512x512 .fp8e4m3), k0_pay1 (F := Ideal) L A B j = A j + ∑ k : Fin 512, L (ix2 (j 0) k) * B (ix2 k (j 1)) := by
    intro A B
    pointwise [k0_pay1]
  refine (h _ _).trans ?_
  refine congrArg₂ (· + ·) rfl (Finset.sum_congr rfl fun k _ => congrArg₂ (· * ·) (congrArg L ?_) (congrArg W ?_))
  · refine congrArg (fun a : Fin 64 => (ix2 a k : S64x512.Idx)) (Fin.ext ?_)
    show (j 0).val = 0 + 1 * (j 0).val
    omega
  · funext a
    refine Fin.ext ?_
    fin_cases a
    · show 0 + 1 * k.val = k.val
      omega
    · rfl

/-- A chunk of the first result is a chunk of the whole first result. -/
theorem gelu_piece (o : ℕ) (inb) (inb') (inbw) (s : FVec Ideal S48x1 .f32) (X : S64x8192.Idx → EReal) (W : S1x8192.Idx → EReal) (j : S48x512.Idx) :
    k0_pay60 (F := Ideal) s (View.ld (Val := Elt Ideal) (e' := .f32) X (Rect.unit ![0, o] S48x512.size inb))
      (View.ld (Val := Elt Ideal) (e' := .f32) W (Rect.unit ![0, o] S1x512.size inbw)) j
      = (fun y : S48x8192.Idx => gelu (X (ix2 ((y 0).castLE (by decide)) (y 1)) * s (ix2 (y 0) 0) * W (ix2 0 (y 1)))) ((Rect.unit (s := S48x8192) ![0, o] S48x512.size inb').emb j) := by
  have h : ∀ (A : FVec Ideal S48x512 .f32) (B : Vec Ideal S1x512 .f32), k0_pay60 (F := Ideal) s A B j
      = gelu (A j * s (ix2 (j 0) 0) * B (ix2 0 (j 1))) := by
    intro A B
    pointwise [k0_pay60, k0_pay59]
    rfl
  refine (h _ _).trans ?_
  refine congrArg gelu (congrArg₂ (· * ·) (congrArg₂ (· * ·) (congrArg X ?_) (congrArg s ?_)) (congrArg W ?_))
  · funext a
    refine Fin.ext ?_
    fin_cases a <;> rfl
  · refine congrArg (fun a : Fin 48 => (ix2 a 0 : S48x1.Idx)) (Fin.ext ?_)
    show (j 0).val = 0 + 1 * (j 0).val
    omega
  · funext a
    refine Fin.ext ?_
    fin_cases a
    · show 0 + 1 * 0 = 0
      rfl
    · rfl

end Cert.KernelIdeal.Value

end
-- ==== Proof.Value.Middle.lean ====
module

public import proofs.«01_k».proof.Proof.Run.Tracked
public import proofs.«01_k».proof.Proof.Value.Pieces
public import Idealize.ShloMosaic.Lib.Pipeline.ReadBack

/-!
# A middle grid point

The point adds, to each entry of the accumulator, the product of its 512 columns of codes with its 512 rows of weights.
-/

@[expose] public section

set_option maxRecDepth 16384

noncomputable section

namespace Cert.KernelIdeal.Value

open Cert.KernelIdeal Cert.KernelIdeal.Gen Cert.KernelIdeal.Tracked Cert.Scale
open Idealize.ShloMosaic Idealize.ShloMosaic.Tactic
open Idealize.SL.Sem

/-- The columns of codes a grid point multiplies. -/
def codesAt (i : grid0.Coords) (xs0 : Vec Ideal S64x32768 .fp8e4m3) : Vec Ideal S64x512 .fp8e4m3 :=
  View.ld xs0 (Rect.unit (s := S64x32768) (k0_off1 i) S64x512.size (k0_off1_inb i))

/-- The accumulator after a point that found `acc`, with codes `L` and weights `W`. -/
def accStep (L : Vec Ideal S64x512 .fp8e4m3) (W : Vec Ideal S512x8192 .fp8e4m3) (acc : Vec Ideal S64x8192 .f32) : Vec Ideal S64x8192 .f32 :=
  fun y => ((acc y : EReal) + ∑ k : Fin 512, (L (ix2 (y 0) k) : EReal) * W (ix2 k (y 1)) : EReal)

set_option maxHeartbeats 1600000 in
/-- A middle point leaves the accumulator it found, one step further. -/
theorem middle_acc (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : ¬cond0_1 i)
    (x0 : Vec Ideal S48x32768 .bf16) (x1 : Vec Ideal S512x8192 .fp8e4m3) (x2 : Vec Ideal S1x8192 .f32) (xs0 : Vec Ideal S64x32768 .fp8e4m3) (xs1 : Vec Ideal S64x8192 .f32) :
    sout0_B_1 (F := Ideal) c i arg1 harg1 arg2 harg2 arg3 harg3 arg4 harg4 arg5 harg5 arg6 harg6 arg7 harg7 arg8 harg8 hc0 hc1 x0 x1 x2 xs0 xs1 = accStep (codesAt i xs0) x1 xs1 := by
  funext y
  have hcov := scover0_B_1 (F := Ideal) c i arg1 harg1 arg2 harg2 arg3 harg3 arg4 harg4 arg5 harg5 arg6 harg6 arg7 harg7 arg8 harg8 hc0 hc1 x0 x1 x2 xs0 xs1 y
  unfold sout0_B_1
  rw [View.read_writes_junk_eq_canon]
  refine View.canon_apply_of_pieces (accStep (codesAt i xs0) x1 xs1) _ (View.PiecesOf.mem ?_) y hcov
  clear hcov
  unfold kernelRun0_B
  dsimp only
  sl_unfold_words
  simp only [View.readAt_eq_ld, harg2.read_unread, harg7.read_unread, harg8.read_unread]
  refine ⟨?_, ?_, ?_, ?_, ?_, ?_, ?_, ?_, ?_, ?_, ?_, ?_, ?_, ?_, ?_, ?_, trivial⟩
  all_goals exact fun j => acc_piece _ _ _ _ _ _ j

end Cert.KernelIdeal.Value

end
-- ==== Proof.Value.Last.lean ====
module

public import proofs.«01_k».proof.Proof.Value.Middle

/-!
# The last grid point

The point adds its product to the accumulator as a middle point does, then rescales the finished product and passes it
through gelu into the first result.
-/

@[expose] public section

set_option maxRecDepth 16384

noncomputable section

namespace Cert.KernelIdeal.Value

open Cert.KernelIdeal Cert.KernelIdeal.Gen Cert.KernelIdeal.Tracked Cert.Scale
open Idealize.ShloMosaic Idealize.ShloMosaic.Tactic
open Idealize.SL.Sem

/-- The first result from the finished product `acc`, the rows' scales `s` and the columns' scales `w`. -/
def rescaled (acc : Vec Ideal S64x8192 .f32) (s : Vec Ideal S48x1 .f32) (w : Vec Ideal S1x8192 .f32) : Vec Ideal S48x8192 .bf16 :=
  fun y => gelu ((acc (ix2 ((y 0).castLE (by decide)) (y 1)) : EReal) * s (ix2 (y 0) 0) * w (ix2 0 (y 1)))

/-- A chunk of the first result, in any of the ways the kernel writes the same chunk. -/
theorem gelu_piece' (o : ℕ) (inb) (inb') (inbw) (P : FVec Ideal S48x512 .bf16) (s : FVec Ideal S48x1 .f32)
    (A : Vec Ideal S48x512 .f32) (B : Vec Ideal S1x512 .f32) (X : Vec Ideal S64x8192 .f32) (W : Vec Ideal S1x8192 .f32)
    (s' : Vec Ideal S48x1 .f32) (hP : P = k0_pay60 (F := Ideal) s A B) (hs : s = s')
    (hA : A = View.ld X (Rect.unit (s := S64x8192) ![0, o] S48x512.size inb))
    (hB : B = View.ld W (Rect.unit (s := S1x8192) ![0, o] S1x512.size inbw)) (j : S48x512.Idx) :
    P j = rescaled X s' W ((Rect.unit (s := S48x8192) ![0, o] S48x512.size inb').emb j) := by
  subst hP hs hA hB
  exact gelu_piece o inb inb' inbw s X W j

/-- A load of a chunk of stores is a chunk of what the stores leave. -/
theorem load_chunk {s : Shape} {e : EltTy} {κ} {sp} (v : View sig κ sp s e) (L : List (View.Piece (Elt Ideal) s e)) (X : s.Idx → Elt Ideal e)
    (h : View.canon L = X) (r : Rect s) : v.readCov L r.toLoadRect = View.ld X r := by
  subst h
  exact View.readCov_eq_canon' v L r.toLoadRect

set_option maxHeartbeats 1600000 in
/-- The stores the last point makes into the accumulator leave what it found, one step further. -/
theorem last_acc (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec Ideal S48x32768 .bf16) (x1 : Vec Ideal S512x8192 .fp8e4m3) (x2 : Vec Ideal S1x8192 .f32) (xo4 : Vec Ideal S48x32768 .fp8e4m3) (xo5 : Vec Ideal S48x1 .f32) (xs0 : Vec Ideal S64x32768 .fp8e4m3) (xs1 : Vec Ideal S64x8192 .f32) :
    View.canon (kernelRun0_C.sl.HS1_16 (F := Ideal) c i arg2 harg2 arg7 harg7 arg8 harg8 x1 xs0 xs1) = accStep (codesAt i xs0) x1 xs1 := by
  funext y
  have hcov := scover0_C_1 (F := Ideal) c i arg1 harg1 arg2 harg2 arg3 harg3 arg4 harg4 arg5 harg5 arg6 harg6 arg7 harg7 arg8 harg8 hc0 hc1 x0 x1 x2 xo4 xo5 xs0 xs1 y
  unfold kernelRun0_C at hcov
  dsimp only at hcov
  refine View.canon_apply_of_pieces (accStep (codesAt i xs0) x1 xs1) _ (View.PiecesOf.mem ?_) y hcov
  clear hcov
  sl_unfold_words
  simp only [View.readAt_eq_ld, harg2.read_unread, harg7.read_unread, harg8.read_unread]
  refine ⟨?_, ?_, ?_, ?_, ?_, ?_, ?_, ?_, ?_, ?_, ?_, ?_, ?_, ?_, ?_, ?_, trivial⟩
  all_goals exact fun j => acc_piece _ _ _ _ _ _ j

set_option maxHeartbeats 1600000 in
/-- The last point leaves the first result computed from the finished product. -/
theorem last_result (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : ¬cond0_0 i) (hc1 : cond0_1 i)
    (x0 : Vec Ideal S48x32768 .bf16) (x1 : Vec Ideal S512x8192 .fp8e4m3) (x2 : Vec Ideal S1x8192 .f32) (xo4 : Vec Ideal S48x32768 .fp8e4m3) (xo5 : Vec Ideal S48x1 .f32) (xs0 : Vec Ideal S64x32768 .fp8e4m3) (xs1 : Vec Ideal S64x8192 .f32) :
    out0_C_3 (F := Ideal) c i arg1 harg1 arg2 harg2 arg3 harg3 arg4 harg4 arg5 harg5 arg6 harg6 arg7 harg7 arg8 harg8 hc0 hc1 x0 x1 x2 xo4 xo5 xs0 xs1 = rescaled (accStep (codesAt i xs0) x1 xs1) xo5 x2 := by
  funext y
  have hcov := cover0_C_3 (F := Ideal) c i arg1 harg1 arg2 harg2 arg3 harg3 arg4 harg4 arg5 harg5 arg6 harg6 arg7 harg7 arg8 harg8 hc0 hc1 x0 x1 x2 xo4 xo5 xs0 xs1 y
  unfold out0_C_3
  rw [View.read_writes_junk_eq_canon]
  refine View.canon_apply_of_pieces (rescaled (accStep (codesAt i xs0) x1 xs1) xo5 x2) _ (View.PiecesOf.mem ?_) y hcov
  clear hcov
  have hacc := last_acc c i arg1 harg1 arg2 harg2 arg3 harg3 arg4 harg4 arg5 harg5 arg6 harg6 arg7 harg7 arg8 harg8 hc0 hc1 x0 x1 x2 xo4 xo5 xs0 xs1
  have hV : ∀ o inb, arg8.view.readCov (kernelRun0_C.sl.HS1_16 (F := Ideal) c i arg2 harg2 arg7 harg7 arg8 harg8 x1 xs0 xs1)
      (Rect.unit (s := S64x8192) ![0, o] S48x512.size inb).toLoadRect
      = View.ld (accStep (codesAt i xs0) x1 xs1) (Rect.unit (s := S64x8192) ![0, o] S48x512.size inb) :=
    fun o inb => load_chunk _ _ _ hacc _
  let s0 : FVec Ideal S48x1 .f32 := View.readAt (Elt Ideal) arg6.view (Rect.unit (s := S48x1) ![0, 0] S48x1.size inb_S48x1_S48x1_0_0).toLoadRect (harg6.unread xo5)
  have hs : s0 = xo5 := by
    show View.readAt (Elt Ideal) arg6.view (Rect.unit (s := S48x1) ![0, 0] S48x1.size inb_S48x1_S48x1_0_0).toLoadRect (harg6.unread xo5) = xo5
    rw [View.readAt_eq_ld, harg6.read_unread]
    exact View.ld_unit_zero (funext fun a => by fin_cases a <;> rfl) _ _
  let loadW : (r : Rect S1x8192) → r.shape.Idx → Elt Ideal .f32 := fun r => View.readAt (Elt Ideal) arg3.view r.toLoadRect (harg3.unread x2)
  have hW : ∀ r, loadW r = View.ld x2 r := by
    intro r
    show View.readAt (Elt Ideal) arg3.view r.toLoadRect (harg3.unread x2) = View.ld x2 r
    rw [View.readAt_eq_ld, harg3.read_unread]
  unfold kernelRun0_C
  refine ⟨?_, ?_, ?_, ?_, ?_, ?_, ?_, ?_, ?_, ?_, ?_, ?_, ?_, ?_, ?_, ?_, trivial⟩
  · exact fun j => gelu_piece' 7680 inb_S64x8192_S48x512_0_7680 inb_S48x8192_S48x512_0_7680 inb_S1x8192_S1x512_0_7680 _ s0 _ (loadW (Rect.unit ![0, 7680] ![1, 512] inb_S1x8192_S1x512_0_7680))
      (accStep (codesAt i xs0) x1 xs1) x2 xo5 rfl hs (hV 7680 inb_S64x8192_S48x512_0_7680) (hW _) j
  · exact fun j => gelu_piece' 7168 inb_S64x8192_S48x512_0_7168 inb_S48x8192_S48x512_0_7168 inb_S1x8192_S1x512_0_7168 _ s0 _ (loadW (Rect.unit ![0, 7168] ![1, 512] inb_S1x8192_S1x512_0_7168))
      (accStep (codesAt i xs0) x1 xs1) x2 xo5 rfl hs (hV 7168 inb_S64x8192_S48x512_0_7168) (hW _) j
  · exact fun j => gelu_piece' 6656 inb_S64x8192_S48x512_0_6656 inb_S48x8192_S48x512_0_6656 inb_S1x8192_S1x512_0_6656 _ s0 _ (loadW (Rect.unit ![0, 6656] ![1, 512] inb_S1x8192_S1x512_0_6656))
      (accStep (codesAt i xs0) x1 xs1) x2 xo5 rfl hs (hV 6656 inb_S64x8192_S48x512_0_6656) (hW _) j
  · exact fun j => gelu_piece' 6144 inb_S64x8192_S48x512_0_6144 inb_S48x8192_S48x512_0_6144 inb_S1x8192_S1x512_0_6144 _ s0 _ (loadW (Rect.unit ![0, 6144] ![1, 512] inb_S1x8192_S1x512_0_6144))
      (accStep (codesAt i xs0) x1 xs1) x2 xo5 rfl hs (hV 6144 inb_S64x8192_S48x512_0_6144) (hW _) j
  · exact fun j => gelu_piece' 5632 inb_S64x8192_S48x512_0_5632 inb_S48x8192_S48x512_0_5632 inb_S1x8192_S1x512_0_5632 _ s0 _ (loadW (Rect.unit ![0, 5632] ![1, 512] inb_S1x8192_S1x512_0_5632))
      (accStep (codesAt i xs0) x1 xs1) x2 xo5 rfl hs (hV 5632 inb_S64x8192_S48x512_0_5632) (hW _) j
  · exact fun j => gelu_piece' 5120 inb_S64x8192_S48x512_0_5120 inb_S48x8192_S48x512_0_5120 inb_S1x8192_S1x512_0_5120 _ s0 _ (loadW (Rect.unit ![0, 5120] ![1, 512] inb_S1x8192_S1x512_0_5120))
      (accStep (codesAt i xs0) x1 xs1) x2 xo5 rfl hs (hV 5120 inb_S64x8192_S48x512_0_5120) (hW _) j
  · exact fun j => gelu_piece' 4608 inb_S64x8192_S48x512_0_4608 inb_S48x8192_S48x512_0_4608 inb_S1x8192_S1x512_0_4608 _ s0 _ (loadW (Rect.unit ![0, 4608] ![1, 512] inb_S1x8192_S1x512_0_4608))
      (accStep (codesAt i xs0) x1 xs1) x2 xo5 rfl hs (hV 4608 inb_S64x8192_S48x512_0_4608) (hW _) j
  · exact fun j => gelu_piece' 4096 inb_S64x8192_S48x512_0_4096 inb_S48x8192_S48x512_0_4096 inb_S1x8192_S1x512_0_4096 _ s0 _ (loadW (Rect.unit ![0, 4096] ![1, 512] inb_S1x8192_S1x512_0_4096))
      (accStep (codesAt i xs0) x1 xs1) x2 xo5 rfl hs (hV 4096 inb_S64x8192_S48x512_0_4096) (hW _) j
  · exact fun j => gelu_piece' 3584 inb_S64x8192_S48x512_0_3584 inb_S48x8192_S48x512_0_3584 inb_S1x8192_S1x512_0_3584 _ s0 _ (loadW (Rect.unit ![0, 3584] ![1, 512] inb_S1x8192_S1x512_0_3584))
      (accStep (codesAt i xs0) x1 xs1) x2 xo5 rfl hs (hV 3584 inb_S64x8192_S48x512_0_3584) (hW _) j
  · exact fun j => gelu_piece' 3072 inb_S64x8192_S48x512_0_3072 inb_S48x8192_S48x512_0_3072 inb_S1x8192_S1x512_0_3072 _ s0 _ (loadW (Rect.unit ![0, 3072] ![1, 512] inb_S1x8192_S1x512_0_3072))
      (accStep (codesAt i xs0) x1 xs1) x2 xo5 rfl hs (hV 3072 inb_S64x8192_S48x512_0_3072) (hW _) j
  · exact fun j => gelu_piece' 2560 inb_S64x8192_S48x512_0_2560 inb_S48x8192_S48x512_0_2560 inb_S1x8192_S1x512_0_2560 _ s0 _ (loadW (Rect.unit ![0, 2560] ![1, 512] inb_S1x8192_S1x512_0_2560))
      (accStep (codesAt i xs0) x1 xs1) x2 xo5 rfl hs (hV 2560 inb_S64x8192_S48x512_0_2560) (hW _) j
  · exact fun j => gelu_piece' 2048 inb_S64x8192_S48x512_0_2048 inb_S48x8192_S48x512_0_2048 inb_S1x8192_S1x512_0_2048 _ s0 _ (loadW (Rect.unit ![0, 2048] ![1, 512] inb_S1x8192_S1x512_0_2048))
      (accStep (codesAt i xs0) x1 xs1) x2 xo5 rfl hs (hV 2048 inb_S64x8192_S48x512_0_2048) (hW _) j
  · exact fun j => gelu_piece' 1536 inb_S64x8192_S48x512_0_1536 inb_S48x8192_S48x512_0_1536 inb_S1x8192_S1x512_0_1536 _ s0 _ (loadW (Rect.unit ![0, 1536] ![1, 512] inb_S1x8192_S1x512_0_1536))
      (accStep (codesAt i xs0) x1 xs1) x2 xo5 rfl hs (hV 1536 inb_S64x8192_S48x512_0_1536) (hW _) j
  · exact fun j => gelu_piece' 1024 inb_S64x8192_S48x512_0_1024 inb_S48x8192_S48x512_0_1024 inb_S1x8192_S1x512_0_1024 _ s0 _ (loadW (Rect.unit ![0, 1024] ![1, 512] inb_S1x8192_S1x512_0_1024))
      (accStep (codesAt i xs0) x1 xs1) x2 xo5 rfl hs (hV 1024 inb_S64x8192_S48x512_0_1024) (hW _) j
  · exact fun j => gelu_piece' 512 inb_S64x8192_S48x512_0_512 inb_S48x8192_S48x512_0_512 inb_S1x8192_S1x512_0_512 _ s0 _ (loadW (Rect.unit ![0, 512] ![1, 512] inb_S1x8192_S1x512_0_512))
      (accStep (codesAt i xs0) x1 xs1) x2 xo5 rfl hs (hV 512 inb_S64x8192_S48x512_0_512) (hW _) j
  · exact fun j => gelu_piece' 0 inb_S64x8192_S48x512_0_0 inb_S48x8192_S48x512_0_0 inb_S1x8192_S1x512_0_0 _ s0 _ (loadW (Rect.unit ![0, 0] ![1, 512] inb_S1x8192_S1x512_0_0))
      (accStep (codesAt i xs0) x1 xs1) x2 xo5 rfl hs (hV 0 inb_S64x8192_S48x512_0_0) (hW _) j

end Cert.KernelIdeal.Value

end
-- ==== Proof.Value.First.lean ====
module

public import proofs.«01_k».proof.Proof.Value.Last

/-!
# The first grid point

The point quantises every row into codes, keeps them with sixteen rows of zeros below, fills the accumulator with zeros
and adds its own product to it.
-/

@[expose] public section

set_option maxRecDepth 16384

noncomputable section

namespace Cert.KernelIdeal.Value

open Cert.KernelIdeal Cert.KernelIdeal.Gen Cert.KernelIdeal.Tracked Cert.Scale
open Idealize.ShloMosaic Idealize.ShloMosaic.Tactic
open Idealize.SL.Sem

/-- The codes of the values `x` at the rows' inverse scales `inv`. -/
def codesOf (x : Vec Ideal S48x32768 .bf16) (inv : Vec Ideal S48x1 .f32) : Vec Ideal S48x32768 .fp8e4m3 :=
  fun y => codeOf (x y) (inv (ix2 (y 0) 0))

/-- Codes with sixteen rows of zeros below. -/
def padded (q : Vec Ideal S48x32768 .fp8e4m3) : Vec Ideal S64x32768 .fp8e4m3 :=
  fun y => if h : (y 0).val < 48 then (q (ix2 ⟨(y 0).val, h⟩ (y 1)) : EReal) else (0 : EReal)

/-- A chunk of codes, in any of the ways the kernel writes the same chunk. -/
theorem codes_piece' (o : ℕ) (inb) (P : FVec Ideal S48x2048 .fp8e4m3) (s : FVec Ideal S48x1 .f32) (A : Vec Ideal S48x2048 .bf16)
    (X : Vec Ideal S48x32768 .bf16) (hP : P = k0_pay12 (F := Ideal) s A)
    (hA : A = View.ld X (Rect.unit (s := S48x32768) ![0, o] S48x2048.size inb)) (j : S48x2048.Idx) :
    P j = codesOf X s ((Rect.unit (s := S48x32768) ![0, o] S48x2048.size inb).emb j) := by
  subst hP hA
  exact codes_piece o inb s X j

/-- The same chunk of codes is a chunk of the padded codes. -/
theorem padded_piece (o : ℕ) (inb) (inb') (P : FVec Ideal S48x2048 .fp8e4m3) (s : FVec Ideal S48x1 .f32) (A : Vec Ideal S48x2048 .bf16)
    (X : Vec Ideal S48x32768 .bf16) (hP : P = k0_pay13 (F := Ideal) s A)
    (hA : A = View.ld X (Rect.unit (s := S48x32768) ![0, o] S48x2048.size inb)) (j : S48x2048.Idx) :
    P j = padded (codesOf X s) ((Rect.unit (s := S64x32768) ![0, o] S48x2048.size inb').emb j) := by
  have hP' : P = k0_pay12 (F := Ideal) s A := hP.trans (shapeCast_self _ _)
  rw [codes_piece' o inb P s A X hP' hA j]
  have e : ((Rect.unit (s := S64x32768) ![0, o] S48x2048.size inb').emb j 0).val = (j 0).val := by
    show 0 + 1 * (j 0).val = (j 0).val
    omega
  have hj : (j 0).val < 48 := (j 0).isLt
  unfold padded
  rw [dif_pos (by rw [e]; exact hj)]
  refine congrArg (codesOf X s) ?_
  funext a
  refine Fin.ext ?_
  fin_cases a <;> rfl

/-- The chunk of zeros below is a chunk of the padded codes. -/
theorem zeros_piece (o : ℕ) (inb) (P : FVec Ideal S16x2048 .fp8e4m3) (q : Vec Ideal S48x32768 .fp8e4m3)
    (hP : P = k0_pay14 (F := Ideal)) (j : S16x2048.Idx) :
    P j = padded q ((Rect.unit (s := S64x32768) ![48, o] S16x2048.size inb).emb j) := by
  subst hP
  have e : ((Rect.unit (s := S64x32768) ![48, o] S16x2048.size inb).emb j 0).val = 48 + (j 0).val := by
    show 48 + 1 * (j 0).val = 48 + (j 0).val
    omega
  unfold padded
  rw [dif_neg (by rw [e]; omega)]
  pointwise [k0_pay14, k0_pay11]

/-- An accumulator whose first `o` columns hold the point's product and whose other columns are zero. -/
def Upto (L : Vec Ideal S64x512 .fp8e4m3) (W : Vec Ideal S512x8192 .fp8e4m3) (o : ℕ) (f : Vec Ideal S64x8192 .f32) : Prop :=
  ∀ y, f y = if (y 1).val < o then accStep L W (fun _ => (0 : EReal)) y else (0 : EReal)

/-- A store of the next 512 columns of the product moves that boundary by 512. -/
theorem upto_step (o : ℕ) (inb) (inbw) {κ} {sp} (v : View sig κ sp S64x8192 .f32) (HS : List (View.Piece (Elt Ideal) S64x8192 .f32))
    (HS' : Vec Ideal S64x8192 .f32) (L0 L : Vec Ideal S64x512 .fp8e4m3) (W : Vec Ideal S512x8192 .fp8e4m3) (B : Vec Ideal S512x512 .fp8e4m3)
    (h : Upto L W o (View.canon HS)) (hL : L0 = L)
    (hB : B = View.ld W (Rect.unit (s := S512x8192) ![0, o] S512x512.size inbw))
    (hHS : HS' = HS')
    (hP : HS' = View.canon (⟨Rect.unit (s := S64x8192) ![0, o] S64x512.size inb,
      k0_pay1 (F := Ideal) L0 (v.readCov HS (Rect.unit (s := S64x8192) ![0, o] S64x512.size inb).toLoadRect) B⟩ :: HS)) :
    Upto L W (o + 512) HS' := by
  subst hL hB hP
  intro y
  by_cases hm : y ∈ (Rect.unit (s := S64x8192) ![0, o] S64x512.size inb).set
  · obtain ⟨x, rfl⟩ := (Rect.unit (s := S64x8192) ![0, o] S64x512.size inb).exists_idx_of_mem hm
    have hx : (x 1).val < 512 := (x 1).isLt
    have e : ((Rect.unit (s := S64x8192) ![0, o] S64x512.size inb).emb x 1).val = o + (x 1).val := by
      show o + 1 * (x 1).val = o + (x 1).val
      omega
    rw [show (Rect.unit (s := S64x8192) ![0, o] S64x512.size inb).idx x = (Rect.unit (s := S64x8192) ![0, o] S64x512.size inb).emb x from rfl,
      View.canon_cons_emb, load_chunk v HS _ rfl, if_pos (by rw [e]; omega)]
    refine (acc_piece o inb inbw L0 (View.canon HS) W x).trans ?_
    dsimp only
    rw [h, if_neg (by rw [e]; omega)]
    rfl
  · have key := View.canon_cons_of_not_mem (⟨Rect.unit (s := S64x8192) ![0, o] S64x512.size inb,
      k0_pay1 (F := Ideal) L0 (v.readCov HS (Rect.unit (s := S64x8192) ![0, o] S64x512.size inb).toLoadRect) (View.ld W (Rect.unit (s := S512x8192) ![0, o] S512x512.size inbw))⟩ : View.Piece (Elt Ideal) S64x8192 .f32) HS hm
    rw [key, h]
    rw [Rect.mem_set_unit] at hm
    have hy : ¬ (o ≤ (y 1).val ∧ (y 1).val < o + 512) := by
      intro hy
      refine hm fun a => ?_
      fin_cases a
      · exact ⟨Nat.zero_le _, by show (y 0).val < 0 + 64; have := (y 0).isLt; have e : S64x8192.size 0 = 64 := rfl; omega⟩
      · exact hy
    by_cases h1 : (y 1).val < o
    · rw [if_pos h1, if_pos (by omega)]
    · rw [if_neg h1, if_neg (by omega)]

/-- The first point leaves the codes in the second result. -/
theorem first_codes (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec Ideal S48x32768 .bf16) (x1 : Vec Ideal S512x8192 .fp8e4m3) (x2 : Vec Ideal S1x8192 .f32) :
    out0_A_4 (F := Ideal) c i arg1 harg1 arg2 harg2 arg3 harg3 arg4 harg4 arg5 harg5 arg6 harg6 arg7 harg7 arg8 harg8 hc0 hc1 x0 x1 x2 = codesOf x0 (kernelRun0_A.sl.r_7 (F := Ideal) c arg1 harg1 x0) := by
  funext y
  have hcov := cover0_A_4 (F := Ideal) c i arg1 harg1 arg2 harg2 arg3 harg3 arg4 harg4 arg5 harg5 arg6 harg6 arg7 harg7 arg8 harg8 hc0 hc1 x0 x1 x2 y
  unfold out0_A_4
  rw [View.read_writes_junk_eq_canon]
  refine View.canon_apply_of_pieces (codesOf x0 (kernelRun0_A.sl.r_7 (F := Ideal) c arg1 harg1 x0)) _ (View.PiecesOf.mem ?_) y hcov
  clear hcov
  have hX : ∀ r : Rect S48x32768, View.readAt (Elt Ideal) arg1.view r.toLoadRect (harg1.unread x0) = View.ld x0 r := by
    intro r
    rw [View.readAt_eq_ld, harg1.read_unread]
  unfold kernelRun0_A
  refine ⟨?_, ?_, ?_, ?_, ?_, ?_, ?_, ?_, ?_, ?_, ?_, ?_, ?_, ?_, ?_, ?_, trivial⟩
  · exact fun j => codes_piece' 30720 inb_S48x32768_S48x2048_0_30720 _ _ _ x0 rfl (hX _) j
  · exact fun j => codes_piece' 28672 inb_S48x32768_S48x2048_0_28672 _ _ _ x0 rfl (hX _) j
  · exact fun j => codes_piece' 26624 inb_S48x32768_S48x2048_0_26624 _ _ _ x0 rfl (hX _) j
  · exact fun j => codes_piece' 24576 inb_S48x32768_S48x2048_0_24576 _ _ _ x0 rfl (hX _) j
  · exact fun j => codes_piece' 22528 inb_S48x32768_S48x2048_0_22528 _ _ _ x0 rfl (hX _) j
  · exact fun j => codes_piece' 20480 inb_S48x32768_S48x2048_0_20480 _ _ _ x0 rfl (hX _) j
  · exact fun j => codes_piece' 18432 inb_S48x32768_S48x2048_0_18432 _ _ _ x0 rfl (hX _) j
  · exact fun j => codes_piece' 16384 inb_S48x32768_S48x2048_0_16384 _ _ _ x0 rfl (hX _) j
  · exact fun j => codes_piece' 14336 inb_S48x32768_S48x2048_0_14336 _ _ _ x0 rfl (hX _) j
  · exact fun j => codes_piece' 12288 inb_S48x32768_S48x2048_0_12288 _ _ _ x0 rfl (hX _) j
  · exact fun j => codes_piece' 10240 inb_S48x32768_S48x2048_0_10240 _ _ _ x0 rfl (hX _) j
  · exact fun j => codes_piece' 8192 inb_S48x32768_S48x2048_0_8192 _ _ _ x0 rfl (hX _) j
  · exact fun j => codes_piece' 6144 inb_S48x32768_S48x2048_0_6144 _ _ _ x0 rfl (hX _) j
  · exact fun j => codes_piece' 4096 inb_S48x32768_S48x2048_0_4096 _ _ _ x0 rfl (hX _) j
  · exact fun j => codes_piece' 2048 inb_S48x32768_S48x2048_0_2048 _ _ _ x0 rfl (hX _) j
  · exact fun j => codes_piece' 0 inb_S48x32768_S48x2048_0_0 _ _ _ x0 rfl (hX _) j

/-- The first point leaves the scales in the third result. -/
theorem first_scale (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec Ideal S48x32768 .bf16) (x1 : Vec Ideal S512x8192 .fp8e4m3) (x2 : Vec Ideal S1x8192 .f32) :
    out0_A_5 (F := Ideal) c i arg1 harg1 arg2 harg2 arg3 harg3 arg4 harg4 arg5 harg5 arg6 harg6 arg7 harg7 arg8 harg8 hc0 hc1 x0 x1 x2 = kernelRun0_A.sl.r_6 (F := Ideal) c arg1 harg1 x0 := by
  unfold out0_A_5
  rw [View.read_writes_junk_eq_canon]
  unfold kernelRun0_A
  exact View.canon_unit_zero (funext fun a => by fin_cases a <;> rfl) _ _

/-- The first point's stores of codes leave the padded codes. -/
theorem first_padded (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec Ideal S48x32768 .bf16) (x1 : Vec Ideal S512x8192 .fp8e4m3) (x2 : Vec Ideal S1x8192 .f32) :
    View.canon (kernelRun0_A.sl.HS0_32 (F := Ideal) c arg1 harg1 x0) = padded (codesOf x0 (kernelRun0_A.sl.r_7 (F := Ideal) c arg1 harg1 x0)) := by
  funext y
  have hcov := scover0_A_0 (F := Ideal) c i arg1 harg1 arg2 harg2 arg3 harg3 arg4 harg4 arg5 harg5 arg6 harg6 arg7 harg7 arg8 harg8 hc0 hc1 x0 x1 x2 y
  unfold kernelRun0_A at hcov
  dsimp only at hcov
  refine View.canon_apply_of_pieces (padded (codesOf x0 (kernelRun0_A.sl.r_7 (F := Ideal) c arg1 harg1 x0))) _ (View.PiecesOf.mem ?_) y hcov
  clear hcov
  have hX : ∀ r : Rect S48x32768, View.readAt (Elt Ideal) arg1.view r.toLoadRect (harg1.unread x0) = View.ld x0 r := by
    intro r
    rw [View.readAt_eq_ld, harg1.read_unread]
  unfold kernelRun0_A.sl.HS0_32
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun j => zeros_piece 30720 inb_S64x32768_S16x2048_48_30720 _ _ rfl j
  · exact fun j => padded_piece 30720 inb_S48x32768_S48x2048_0_30720 inb_S64x32768_S48x2048_0_30720 _ _ _ x0 rfl (hX _) j
  · exact fun j => zeros_piece 28672 inb_S64x32768_S16x2048_48_28672 _ _ rfl j
  · exact fun j => padded_piece 28672 inb_S48x32768_S48x2048_0_28672 inb_S64x32768_S48x2048_0_28672 _ _ _ x0 rfl (hX _) j
  · exact fun j => zeros_piece 26624 inb_S64x32768_S16x2048_48_26624 _ _ rfl j
  · exact fun j => padded_piece 26624 inb_S48x32768_S48x2048_0_26624 inb_S64x32768_S48x2048_0_26624 _ _ _ x0 rfl (hX _) j
  · exact fun j => zeros_piece 24576 inb_S64x32768_S16x2048_48_24576 _ _ rfl j
  · exact fun j => padded_piece 24576 inb_S48x32768_S48x2048_0_24576 inb_S64x32768_S48x2048_0_24576 _ _ _ x0 rfl (hX _) j
  · exact fun j => zeros_piece 22528 inb_S64x32768_S16x2048_48_22528 _ _ rfl j
  · exact fun j => padded_piece 22528 inb_S48x32768_S48x2048_0_22528 inb_S64x32768_S48x2048_0_22528 _ _ _ x0 rfl (hX _) j
  · exact fun j => zeros_piece 20480 inb_S64x32768_S16x2048_48_20480 _ _ rfl j
  · exact fun j => padded_piece 20480 inb_S48x32768_S48x2048_0_20480 inb_S64x32768_S48x2048_0_20480 _ _ _ x0 rfl (hX _) j
  · exact fun j => zeros_piece 18432 inb_S64x32768_S16x2048_48_18432 _ _ rfl j
  · exact fun j => padded_piece 18432 inb_S48x32768_S48x2048_0_18432 inb_S64x32768_S48x2048_0_18432 _ _ _ x0 rfl (hX _) j
  · exact fun j => zeros_piece 16384 inb_S64x32768_S16x2048_48_16384 _ _ rfl j
  · exact fun j => padded_piece 16384 inb_S48x32768_S48x2048_0_16384 inb_S64x32768_S48x2048_0_16384 _ _ _ x0 rfl (hX _) j
  · exact fun j => zeros_piece 14336 inb_S64x32768_S16x2048_48_14336 _ _ rfl j
  · exact fun j => padded_piece 14336 inb_S48x32768_S48x2048_0_14336 inb_S64x32768_S48x2048_0_14336 _ _ _ x0 rfl (hX _) j
  · exact fun j => zeros_piece 12288 inb_S64x32768_S16x2048_48_12288 _ _ rfl j
  · exact fun j => padded_piece 12288 inb_S48x32768_S48x2048_0_12288 inb_S64x32768_S48x2048_0_12288 _ _ _ x0 rfl (hX _) j
  · exact fun j => zeros_piece 10240 inb_S64x32768_S16x2048_48_10240 _ _ rfl j
  · exact fun j => padded_piece 10240 inb_S48x32768_S48x2048_0_10240 inb_S64x32768_S48x2048_0_10240 _ _ _ x0 rfl (hX _) j
  · exact fun j => zeros_piece 8192 inb_S64x32768_S16x2048_48_8192 _ _ rfl j
  · exact fun j => padded_piece 8192 inb_S48x32768_S48x2048_0_8192 inb_S64x32768_S48x2048_0_8192 _ _ _ x0 rfl (hX _) j
  · exact fun j => zeros_piece 6144 inb_S64x32768_S16x2048_48_6144 _ _ rfl j
  · exact fun j => padded_piece 6144 inb_S48x32768_S48x2048_0_6144 inb_S64x32768_S48x2048_0_6144 _ _ _ x0 rfl (hX _) j
  · exact fun j => zeros_piece 4096 inb_S64x32768_S16x2048_48_4096 _ _ rfl j
  · exact fun j => padded_piece 4096 inb_S48x32768_S48x2048_0_4096 inb_S64x32768_S48x2048_0_4096 _ _ _ x0 rfl (hX _) j
  · exact fun j => zeros_piece 2048 inb_S64x32768_S16x2048_48_2048 _ _ rfl j
  · exact fun j => padded_piece 2048 inb_S48x32768_S48x2048_0_2048 inb_S64x32768_S48x2048_0_2048 _ _ _ x0 rfl (hX _) j
  · exact fun j => zeros_piece 0 inb_S64x32768_S16x2048_48_0 _ _ rfl j
  · exact fun j => padded_piece 0 inb_S48x32768_S48x2048_0_0 inb_S64x32768_S48x2048_0_0 _ _ _ x0 rfl (hX _) j

/-- The first point leaves its product in the accumulator. -/
theorem first_acc (c : Dev nD) (i : grid0.Coords) (arg1 : Memref sig .tc .vmem S48x32768 .bf16) (harg1 : arg1.IsWhole) (arg2 : Memref sig .tc .vmem S512x8192 .fp8e4m3) (harg2 : arg2.IsWhole) (arg3 : Memref sig .tc .vmem S1x8192 .f32) (harg3 : arg3.IsWhole) (arg4 : Memref sig .tc .vmem S48x8192 .bf16) (harg4 : arg4.IsWhole) (arg5 : Memref sig .tc .vmem S48x32768 .fp8e4m3) (harg5 : arg5.IsWhole) (arg6 : Memref sig .tc .vmem S48x1 .f32) (harg6 : arg6.IsWhole) (arg7 : Memref sig .tc .vmem S64x32768 .fp8e4m3) (harg7 : arg7.IsWhole) (arg8 : Memref sig .tc .vmem S64x8192 .f32) (harg8 : arg8.IsWhole) (hc0 : cond0_0 i) (hc1 : ¬cond0_1 i)
    (x0 : Vec Ideal S48x32768 .bf16) (x1 : Vec Ideal S512x8192 .fp8e4m3) (x2 : Vec Ideal S1x8192 .f32) :
    sout0_A_1 (F := Ideal) c i arg1 harg1 arg2 harg2 arg3 harg3 arg4 harg4 arg5 harg5 arg6 harg6 arg7 harg7 arg8 harg8 hc0 hc1 x0 x1 x2 = accStep (codesAt i (padded (codesOf x0 (kernelRun0_A.sl.r_7 (F := Ideal) c arg1 harg1 x0)))) x1 (fun _ => (0 : EReal)) := by
  let L0 : Vec Ideal S64x512 .fp8e4m3 := kernelRun0_A.sl.r_8 (F := Ideal) c i arg1 harg1 arg7 x0
  have hL : L0 = codesAt i (padded (codesOf x0 (kernelRun0_A.sl.r_7 (F := Ideal) c arg1 harg1 x0))) := by
    rw [← first_padded c i arg1 harg1 arg2 harg2 arg3 harg3 arg4 harg4 arg5 harg5 arg6 harg6 arg7 harg7 arg8 harg8 hc0 hc1 x0 x1 x2]
    exact View.readAt_writes_junk_eq_canon _ _ _
  let loadW : (r : Rect S512x8192) → r.shape.Idx → Elt Ideal .fp8e4m3 := fun r => View.readAt (Elt Ideal) arg2.view r.toLoadRect (harg2.unread x1)
  have hW : ∀ r, loadW r = View.ld x1 r := by
    intro r
    show View.readAt (Elt Ideal) arg2.view r.toLoadRect (harg2.unread x1) = View.ld x1 r
    rw [View.readAt_eq_ld, harg2.read_unread]
  have h1 : Upto (codesAt i (padded (codesOf x0 (kernelRun0_A.sl.r_7 (F := Ideal) c arg1 harg1 x0)))) x1 0 (View.canon (kernelRun0_A.sl.HS1_1 (F := Ideal))) := by
    intro y
    rw [if_neg (Nat.not_lt_zero _)]
    unfold kernelRun0_A.sl.HS1_1
    rw [View.canon_unit_zero (funext fun a => by fin_cases a <;> rfl)]
    pointwise [k0_pay91]
  have h2 := upto_step 0 inb_S64x8192_S64x512_0_0 inb_S512x8192_S512x512_0_0 arg8.view _ _ L0 _ _ (loadW (Rect.unit ![0, 0] ![512, 512] inb_S512x8192_S512x512_0_0)) h1 hL (hW _)
    (show _ = View.canon (kernelRun0_A.sl.HS1_2 (F := Ideal) c i arg1 harg1 arg2 harg2 arg7 arg8 x0 x1) from rfl) rfl
  have h3 := upto_step 512 inb_S64x8192_S64x512_0_512 inb_S512x8192_S512x512_0_512 arg8.view _ _ L0 _ _ (loadW (Rect.unit ![0, 512] ![512, 512] inb_S512x8192_S512x512_0_512)) h2 hL (hW _)
    (show _ = View.canon (kernelRun0_A.sl.HS1_3 (F := Ideal) c i arg1 harg1 arg2 harg2 arg7 arg8 x0 x1) from rfl) rfl
  have h4 := upto_step 1024 inb_S64x8192_S64x512_0_1024 inb_S512x8192_S512x512_0_1024 arg8.view _ _ L0 _ _ (loadW (Rect.unit ![0, 1024] ![512, 512] inb_S512x8192_S512x512_0_1024)) h3 hL (hW _)
    (show _ = View.canon (kernelRun0_A.sl.HS1_4 (F := Ideal) c i arg1 harg1 arg2 harg2 arg7 arg8 x0 x1) from rfl) rfl
  have h5 := upto_step 1536 inb_S64x8192_S64x512_0_1536 inb_S512x8192_S512x512_0_1536 arg8.view _ _ L0 _ _ (loadW (Rect.unit ![0, 1536] ![512, 512] inb_S512x8192_S512x512_0_1536)) h4 hL (hW _)
    (show _ = View.canon (kernelRun0_A.sl.HS1_5 (F := Ideal) c i arg1 harg1 arg2 harg2 arg7 arg8 x0 x1) from rfl) rfl
  have h6 := upto_step 2048 inb_S64x8192_S64x512_0_2048 inb_S512x8192_S512x512_0_2048 arg8.view _ _ L0 _ _ (loadW (Rect.unit ![0, 2048] ![512, 512] inb_S512x8192_S512x512_0_2048)) h5 hL (hW _)
    (show _ = View.canon (kernelRun0_A.sl.HS1_6 (F := Ideal) c i arg1 harg1 arg2 harg2 arg7 arg8 x0 x1) from rfl) rfl
  have h7 := upto_step 2560 inb_S64x8192_S64x512_0_2560 inb_S512x8192_S512x512_0_2560 arg8.view _ _ L0 _ _ (loadW (Rect.unit ![0, 2560] ![512, 512] inb_S512x8192_S512x512_0_2560)) h6 hL (hW _)
    (show _ = View.canon (kernelRun0_A.sl.HS1_7 (F := Ideal) c i arg1 harg1 arg2 harg2 arg7 arg8 x0 x1) from rfl) rfl
  have h8 := upto_step 3072 inb_S64x8192_S64x512_0_3072 inb_S512x8192_S512x512_0_3072 arg8.view _ _ L0 _ _ (loadW (Rect.unit ![0, 3072] ![512, 512] inb_S512x8192_S512x512_0_3072)) h7 hL (hW _)
    (show _ = View.canon (kernelRun0_A.sl.HS1_8 (F := Ideal) c i arg1 harg1 arg2 harg2 arg7 arg8 x0 x1) from rfl) rfl
  have h9 := upto_step 3584 inb_S64x8192_S64x512_0_3584 inb_S512x8192_S512x512_0_3584 arg8.view _ _ L0 _ _ (loadW (Rect.unit ![0, 3584] ![512, 512] inb_S512x8192_S512x512_0_3584)) h8 hL (hW _)
    (show _ = View.canon (kernelRun0_A.sl.HS1_9 (F := Ideal) c i arg1 harg1 arg2 harg2 arg7 arg8 x0 x1) from rfl) rfl
  have h10 := upto_step 4096 inb_S64x8192_S64x512_0_4096 inb_S512x8192_S512x512_0_4096 arg8.view _ _ L0 _ _ (loadW (Rect.unit ![0, 4096] ![512, 512] inb_S512x8192_S512x512_0_4096)) h9 hL (hW _)
    (show _ = View.canon (kernelRun0_A.sl.HS1_10 (F := Ideal) c i arg1 harg1 arg2 harg2 arg7 arg8 x0 x1) from rfl) rfl
  have h11 := upto_step 4608 inb_S64x8192_S64x512_0_4608 inb_S512x8192_S512x512_0_4608 arg8.view _ _ L0 _ _ (loadW (Rect.unit ![0, 4608] ![512, 512] inb_S512x8192_S512x512_0_4608)) h10 hL (hW _)
    (show _ = View.canon (kernelRun0_A.sl.HS1_11 (F := Ideal) c i arg1 harg1 arg2 harg2 arg7 arg8 x0 x1) from rfl) rfl
  have h12 := upto_step 5120 inb_S64x8192_S64x512_0_5120 inb_S512x8192_S512x512_0_5120 arg8.view _ _ L0 _ _ (loadW (Rect.unit ![0, 5120] ![512, 512] inb_S512x8192_S512x512_0_5120)) h11 hL (hW _)
    (show _ = View.canon (kernelRun0_A.sl.HS1_12 (F := Ideal) c i arg1 harg1 arg2 harg2 arg7 arg8 x0 x1) from rfl) rfl
  have h13 := upto_step 5632 inb_S64x8192_S64x512_0_5632 inb_S512x8192_S512x512_0_5632 arg8.view _ _ L0 _ _ (loadW (Rect.unit ![0, 5632] ![512, 512] inb_S512x8192_S512x512_0_5632)) h12 hL (hW _)
    (show _ = View.canon (kernelRun0_A.sl.HS1_13 (F := Ideal) c i arg1 harg1 arg2 harg2 arg7 arg8 x0 x1) from rfl) rfl
  have h14 := upto_step 6144 inb_S64x8192_S64x512_0_6144 inb_S512x8192_S512x512_0_6144 arg8.view _ _ L0 _ _ (loadW (Rect.unit ![0, 6144] ![512, 512] inb_S512x8192_S512x512_0_6144)) h13 hL (hW _)
    (show _ = View.canon (kernelRun0_A.sl.HS1_14 (F := Ideal) c i arg1 harg1 arg2 harg2 arg7 arg8 x0 x1) from rfl) rfl
  have h15 := upto_step 6656 inb_S64x8192_S64x512_0_6656 inb_S512x8192_S512x512_0_6656 arg8.view _ _ L0 _ _ (loadW (Rect.unit ![0, 6656] ![512, 512] inb_S512x8192_S512x512_0_6656)) h14 hL (hW _)
    (show _ = View.canon (kernelRun0_A.sl.HS1_15 (F := Ideal) c i arg1 harg1 arg2 harg2 arg7 arg8 x0 x1) from rfl) rfl
  have h16 := upto_step 7168 inb_S64x8192_S64x512_0_7168 inb_S512x8192_S512x512_0_7168 arg8.view _ _ L0 _ _ (loadW (Rect.unit ![0, 7168] ![512, 512] inb_S512x8192_S512x512_0_7168)) h15 hL (hW _)
    (show _ = View.canon (kernelRun0_A.sl.HS1_16 (F := Ideal) c i arg1 harg1 arg2 harg2 arg7 arg8 x0 x1) from rfl) rfl
  unfold sout0_A_1
  rw [View.read_writes_junk_eq_canon]
  unfold kernelRun0_A
  dsimp only
  have h17 := upto_step 7680 inb_S64x8192_S64x512_0_7680 inb_S512x8192_S512x512_0_7680 arg8.view _ _ L0 _ _ (loadW (Rect.unit ![0, 7680] ![512, 512] inb_S512x8192_S512x512_0_7680)) h16 hL (hW _) rfl rfl
  funext y
  refine (h17 y).trans (if_pos ?_)
  exact (y 1).isLt

end Cert.KernelIdeal.Value

end
-- ==== Proof.Value.Blocks.lean ====
module

public import proofs.«01_k».proof.Proof.Value.First
public import proofs.«01_k».proof.Proof.Value.Last

/-!
# What the windows read

The block of each operand at a point, entry by entry, and the columns of the stored codes that a point loads.
-/

@[expose] public section

set_option maxRecDepth 16384

noncomputable section

namespace Cert.KernelIdeal.Value

open Cert.KernelIdeal Cert.KernelIdeal.Gen Cert.KernelIdeal.Tracked Cert.Scale
open Idealize.ShloMosaic Idealize.ShloMosaic.TcCoe Idealize.ShloMosaic.Tactic
open Idealize.SL.Sem

variable (m : (ℓ : Loc nD τ sig) → Buf (Elt Ideal) ℓ)

/-- There are sixty-four points. -/
theorem point_lt (t : Fin cfg0.N) : t.val < 64 := lt_of_lt_of_eq t.isLt N_0

/-- The block indices of the three operands at a point. -/
theorem block_index : ∀ t : Fin cfg0.N, win0_0.index t 0 = 0 ∧ win0_0.index t 1 = 0 ∧ win0_1.index t 0 = t.val
    ∧ win0_1.index t 1 = 0 ∧ win0_2.index t 0 = 0 ∧ win0_2.index t 1 = 0 :=
  (by decide +kernel : ∀ t : Fin grid0.N, win0_0.index t 0 = 0 ∧ win0_0.index t 1 = 0 ∧ win0_1.index t 0 = t.val
    ∧ win0_1.index t 1 = 0 ∧ win0_2.index t 0 = 0 ∧ win0_2.index t 1 = 0)

/-- Point `t` loads the stored codes from row 0 and column `512 t`. -/
theorem load_index : ∀ t : Fin cfg0.N, k0_off1 (grid0.coords t) 0 = 0 ∧ k0_off1 (grid0.coords t) 1 = t.val * 512 :=
  (by decide +kernel : ∀ t : Fin grid0.N, k0_off1 (grid0.coords t) 0 = 0 ∧ k0_off1 (grid0.coords t) 1 = t.val * 512)

/-- The block of `x` at a point is all of `x`. -/
theorem x_block (c : Dev nD) (t : Fin cfg0.N) (y : S48x32768.Idx) :
    (iblk m c 0 t : Vec Ideal S48x32768 .bf16) y = (V m c main_v0 : Vec Ideal S48x32768 .bf16) y := by
  obtain ⟨h0, h1, -⟩ := block_index t
  unfold iblk
  rw [View.read_apply]
  show V m c main_v0 _ = V m c main_v0 _
  congr 1
  funext a
  apply Fin.ext
  match a with
  | ⟨0, _⟩ => show win0_0.index t 0 * 48 + 1 * (y 0).val = (y 0).val; rw [h0]; omega
  | ⟨1, _⟩ => show win0_0.index t 1 * 32768 + 1 * (y 1).val = (y 1).val; rw [h1]; omega

/-- The block of weights at point `t` is the 512 rows from row `512 t`. -/
theorem w_block (c : Dev nD) (t : Fin cfg0.N) (k : Fin 512) (b : Fin 8192) :
    (iblk m c 1 t : Vec Ideal S512x8192 .fp8e4m3) (ix2 k b)
      = (V m c main_arg1 : Vec Ideal S32768x8192 .fp8e4m3) (ix2 ⟨t.val * 512 + k.val, by have := point_lt t; omega⟩ b) := by
  obtain ⟨-, -, h0, h1, -⟩ := block_index t
  unfold iblk
  rw [View.read_apply]
  show V m c main_arg1 _ = V m c main_arg1 _
  congr 1
  funext a
  apply Fin.ext
  match a with
  | ⟨0, _⟩ => show win0_1.index t 0 * 512 + 1 * k.val = t.val * 512 + k.val; rw [h0]; omega
  | ⟨1, _⟩ => show win0_1.index t 1 * 8192 + 1 * b.val = b.val; rw [h1]; omega

/-- The block of column scales at a point is all of them. -/
theorem s_block (c : Dev nD) (t : Fin cfg0.N) (y : S1x8192.Idx) :
    (iblk m c 2 t : Vec Ideal S1x8192 .f32) y = (V m c main_v1 : Vec Ideal S1x8192 .f32) y := by
  obtain ⟨-, -, -, -, h0, h1⟩ := block_index t
  unfold iblk
  rw [View.read_apply]
  show V m c main_v1 _ = V m c main_v1 _
  congr 1
  funext a
  apply Fin.ext
  match a with
  | ⟨0, _⟩ => show win0_2.index t 0 * 1 + 1 * (y 0).val = (y 0).val; rw [h0]; omega
  | ⟨1, _⟩ => show win0_2.index t 1 * 8192 + 1 * (y 1).val = (y 1).val; rw [h1]; omega

/-- The codes point `t` loads are the 512 columns from column `512 t`. -/
theorem codesAt_at (t : Fin cfg0.N) (q : Vec Ideal S64x32768 .fp8e4m3) (a : Fin 64) (k : Fin 512) :
    codesAt (grid0.coords t) q (ix2 a k) = q (ix2 a ⟨t.val * 512 + k.val, by have := point_lt t; omega⟩) := by
  obtain ⟨h0, h1⟩ := load_index t
  unfold codesAt
  show q _ = q _
  congr 1
  funext b
  apply Fin.ext
  match b with
  | ⟨0, _⟩ => show k0_off1 (grid0.coords t) 0 + 1 * a.val = a.val; rw [h0]; omega
  | ⟨1, _⟩ => show k0_off1 (grid0.coords t) 1 + 1 * k.val = t.val * 512 + k.val; rw [h1]; omega

end Cert.KernelIdeal.Value

end
-- ==== Proof.Value.Scales.lean ====
module

public import proofs.«01_k».proof.Proof.Value.First

/-!
# The scales of the first grid point

The kernel takes a row's largest absolute value chunk by chunk, counts the powers of two below its scaled value on words,
and builds the power of two from bit fields. The result is the reference's scale, and its inverse the reference's inverse.
-/

@[expose] public section

set_option maxRecDepth 16384

noncomputable section

namespace Cert.KernelIdeal.Value

open Cert.KernelIdeal Cert.KernelIdeal.Gen Cert.KernelIdeal.Tracked Cert.Scale
open Idealize.ShloMosaic Idealize.ShloMosaic.Tactic
open Idealize.SL.Sem

/-- The larger of a running maximum and a chunk's largest absolute value. -/
def runMax (v : FVec Ideal S48x1 .f32) (A : Vec Ideal S48x2048 .bf16) : FVec Ideal S48x1 .f32 :=
  maximumf v (shapeCast S48x1 (multiReduction (F := Ideal) .maximumf [1] S48
    (absf (extf .f32 (shapeCast S48x2048 A shapeCasts_S48x2048_S48x2048 : FVec Ideal S48x2048 .bf16) bitsLt_bf16_f32))
    0xFF800000#32 reduces_S48x2048_S48 (.inl rfl) rfl) shapeCasts_S48_S48x1)

/-- The running maximum at a row. -/
theorem runMax_at (v : FVec Ideal S48x1 .f32) (A : Vec Ideal S48x2048 .bf16) (j : S48x1.Idx) :
    runMax v A j = max (v j) (Finset.fold max (Ideal.ofBits .f32 4286578688#32)
      (fun k : Fin 2048 => FloatOps.absf (F := Ideal) (φ := .f32) (A (ix2 (j 0) k))) Finset.univ) := by
  pointwise [runMax]

/-- The running maximum before any chunk. -/
def startMax : FVec Ideal S48x1 .f32 := broadcast S48x1 (Scalar.ofBits .f32 0x00000000#32)

/-- It is zero. -/
theorem startMax_at (j : S48x1.Idx) : startMax j = (0 : EReal) := by
  pointwise [startMax]

/-- `v` is the largest absolute value of the first `o` entries of the row `r` (zero when there are none). -/
def MaxUpto (r : Fin 32768 → EReal) (o : ℕ) (v : EReal) : Prop :=
  ∀ b, v ≤ b ↔ 0 ≤ b ∧ ∀ k : Fin 32768, k.val < o → FloatOps.absf (F := Ideal) (φ := .f32) (r k) ≤ b

/-- The pattern the maxima start from is the least value. -/
theorem least : Ideal.ofBits .f32 4286578688#32 = (⊥ : EReal) := by
  simp [Ideal.ofBits, Ideal.ieee]

/-- An absolute value is not negative. -/
theorem absf_nonneg (x : EReal) : (0 : EReal) ≤ FloatOps.absf (F := Ideal) (φ := .f32) x := by
  show (0 : EReal) ≤ max x (-x)
  rcases le_total 0 x with h | h
  · exact le_max_of_le_left h
  · exact le_max_of_le_right (by simpa using EReal.neg_le_neg_iff.mpr h)

/-- The factor of the scaled value is not negative. -/
theorem unit_nonneg : (0 : EReal) ≤ Ideal.ofBits .f32 991054117#32 := by
  simp [Ideal.ofBits, Ideal.ieee]
  exact mul_nonneg (EReal.coe_nonneg.mpr (by norm_num)) (EReal.coe_nonneg.mpr (by norm_num))

/-- A chunk moves the boundary by 2048. -/
theorem maxUpto_step (o : ℕ) (ho : o + 2048 ≤ 32768) (inb) (X : Vec Ideal S48x32768 .bf16) (v v' : FVec Ideal S48x1 .f32) (A : Vec Ideal S48x2048 .bf16)
    (j : S48x1.Idx) (h : MaxUpto (fun k => X (ix2 (j 0) k)) o (v j))
    (hA : A = View.ld X (Rect.unit (s := S48x32768) ![0, o] S48x2048.size inb)) (hv : v' = runMax v A) :
    MaxUpto (fun k => X (ix2 (j 0) k)) (o + 2048) (v' j) := by
  subst hA hv
  intro b
  rw [runMax_at, max_le_iff, h b, Finset.fold_max_le, least]
  have e : ∀ k : Fin 2048, (View.ld X (Rect.unit (s := S48x32768) ![0, o] S48x2048.size inb) (ix2 (j 0) k) : EReal)
      = X (ix2 (j 0) ⟨o + k.val, by omega⟩) := by
    intro k
    refine congrArg X ?_
    funext a
    refine Fin.ext ?_
    fin_cases a
    · show 0 + 1 * (j 0).val = (j 0).val
      omega
    · show o + 1 * k.val = o + k.val
      omega
  constructor
  · rintro ⟨⟨h0, h1⟩, -, h2⟩
    refine ⟨h0, fun k hk => ?_⟩
    by_cases hko : k.val < o
    · exact h1 k hko
    · have := h2 ⟨k.val - o, by omega⟩ (Finset.mem_univ _)
      rw [e] at this
      have ek : (⟨o + (k.val - o), by omega⟩ : Fin 32768) = k := Fin.ext (by show o + (k.val - o) = k.val; omega)
      dsimp only at this
      rw [ek] at this
      exact this
  · rintro ⟨h0, h1⟩
    refine ⟨⟨h0, fun k hk => h1 k (by omega)⟩, bot_le, fun k _ => ?_⟩
    rw [e]
    exact h1 ⟨o + k.val, by omega⟩ (by show o + k.val < o + 2048; omega)

/-- The largest absolute value of the whole row. -/
theorem maxUpto_all (r : Fin 32768 → EReal) (v : EReal) (h : MaxUpto r 32768 v) : v = rowMax r := by
  refine eq_of_forall_ge_iff fun b => ?_
  rw [h b]
  unfold rowMax
  rw [Finset.fold_max_le, least]
  constructor
  · rintro ⟨-, h1⟩
    exact ⟨bot_le, fun k _ => h1 k k.isLt⟩
  · rintro ⟨-, h1⟩
    exact ⟨(absf_nonneg _).trans (h1 ⟨0, by omega⟩ (Finset.mem_univ _)), fun k _ => h1 k (Finset.mem_univ _)⟩

/-- The largest absolute value of a row is not negative. -/
theorem rowMax_nonneg (r : Fin 32768 → EReal) : 0 ≤ rowMax r := by
  unfold rowMax
  have h := (Finset.fold_max_le (f := fun k : Fin 32768 => FloatOps.absf (F := Ideal) (φ := .f32) (r k))
    (s := Finset.univ) (b := Ideal.ofBits .f32 4286578688#32) _).mp le_rfl
  exact (absf_nonneg (r 0)).trans (h.2 0 (Finset.mem_univ _))

/-- The first point's running maximum, after the last chunk, is the row's largest absolute value. -/
theorem first_max (c : Dev nD) (arg1 : Memref sig .tc .vmem S48x32768 .bf16) (harg1 : arg1.IsWhole) (x0 : Vec Ideal S48x32768 .bf16) (j : S48x1.Idx) :
    kernelRun0_A.sl.r_4 (F := Ideal) c arg1 harg1 x0 j = rowMax fun k => x0 (ix2 (j 0) k) := by
  let load : (r : Rect S48x32768) → r.shape.Idx → Elt Ideal .bf16 := fun r => View.readAt (Elt Ideal) arg1.view r.toLoadRect (harg1.unread x0)
  have hX : ∀ r, load r = View.ld x0 r := by
    intro r
    show View.readAt (Elt Ideal) arg1.view r.toLoadRect (harg1.unread x0) = View.ld x0 r
    rw [View.readAt_eq_ld, harg1.read_unread]
  have h0 : MaxUpto (fun k => x0 (ix2 (j 0) k)) 0 (startMax j) := by
    intro b
    rw [startMax_at]
    exact ⟨fun h => ⟨h, fun k hk => absurd hk (Nat.not_lt_zero _)⟩, fun h => h.1⟩
  let v1 : FVec Ideal S48x1 .f32 := runMax startMax (load (Rect.unit ![0, 0] S48x2048.size inb_S48x32768_S48x2048_0_0))
  have h1 := maxUpto_step 0 (by omega) inb_S48x32768_S48x2048_0_0 x0 startMax v1 (load (Rect.unit ![0, 0] S48x2048.size inb_S48x32768_S48x2048_0_0)) j h0 (hX _) rfl
  let v2 : FVec Ideal S48x1 .f32 := runMax v1 (load (Rect.unit ![0, 2048] S48x2048.size inb_S48x32768_S48x2048_0_2048))
  have h2 := maxUpto_step 2048 (by omega) inb_S48x32768_S48x2048_0_2048 x0 v1 v2 (load (Rect.unit ![0, 2048] S48x2048.size inb_S48x32768_S48x2048_0_2048)) j h1 (hX _) rfl
  let v3 : FVec Ideal S48x1 .f32 := runMax v2 (load (Rect.unit ![0, 4096] S48x2048.size inb_S48x32768_S48x2048_0_4096))
  have h3 := maxUpto_step 4096 (by omega) inb_S48x32768_S48x2048_0_4096 x0 v2 v3 (load (Rect.unit ![0, 4096] S48x2048.size inb_S48x32768_S48x2048_0_4096)) j h2 (hX _) rfl
  let v4 : FVec Ideal S48x1 .f32 := runMax v3 (load (Rect.unit ![0, 6144] S48x2048.size inb_S48x32768_S48x2048_0_6144))
  have h4 := maxUpto_step 6144 (by omega) inb_S48x32768_S48x2048_0_6144 x0 v3 v4 (load (Rect.unit ![0, 6144] S48x2048.size inb_S48x32768_S48x2048_0_6144)) j h3 (hX _) rfl
  let v5 : FVec Ideal S48x1 .f32 := runMax v4 (load (Rect.unit ![0, 8192] S48x2048.size inb_S48x32768_S48x2048_0_8192))
  have h5 := maxUpto_step 8192 (by omega) inb_S48x32768_S48x2048_0_8192 x0 v4 v5 (load (Rect.unit ![0, 8192] S48x2048.size inb_S48x32768_S48x2048_0_8192)) j h4 (hX _) rfl
  let v6 : FVec Ideal S48x1 .f32 := runMax v5 (load (Rect.unit ![0, 10240] S48x2048.size inb_S48x32768_S48x2048_0_10240))
  have h6 := maxUpto_step 10240 (by omega) inb_S48x32768_S48x2048_0_10240 x0 v5 v6 (load (Rect.unit ![0, 10240] S48x2048.size inb_S48x32768_S48x2048_0_10240)) j h5 (hX _) rfl
  let v7 : FVec Ideal S48x1 .f32 := runMax v6 (load (Rect.unit ![0, 12288] S48x2048.size inb_S48x32768_S48x2048_0_12288))
  have h7 := maxUpto_step 12288 (by omega) inb_S48x32768_S48x2048_0_12288 x0 v6 v7 (load (Rect.unit ![0, 12288] S48x2048.size inb_S48x32768_S48x2048_0_12288)) j h6 (hX _) rfl
  let v8 : FVec Ideal S48x1 .f32 := runMax v7 (load (Rect.unit ![0, 14336] S48x2048.size inb_S48x32768_S48x2048_0_14336))
  have h8 := maxUpto_step 14336 (by omega) inb_S48x32768_S48x2048_0_14336 x0 v7 v8 (load (Rect.unit ![0, 14336] S48x2048.size inb_S48x32768_S48x2048_0_14336)) j h7 (hX _) rfl
  let v9 : FVec Ideal S48x1 .f32 := runMax v8 (load (Rect.unit ![0, 16384] S48x2048.size inb_S48x32768_S48x2048_0_16384))
  have h9 := maxUpto_step 16384 (by omega) inb_S48x32768_S48x2048_0_16384 x0 v8 v9 (load (Rect.unit ![0, 16384] S48x2048.size inb_S48x32768_S48x2048_0_16384)) j h8 (hX _) rfl
  let v10 : FVec Ideal S48x1 .f32 := runMax v9 (load (Rect.unit ![0, 18432] S48x2048.size inb_S48x32768_S48x2048_0_18432))
  have h10 := maxUpto_step 18432 (by omega) inb_S48x32768_S48x2048_0_18432 x0 v9 v10 (load (Rect.unit ![0, 18432] S48x2048.size inb_S48x32768_S48x2048_0_18432)) j h9 (hX _) rfl
  let v11 : FVec Ideal S48x1 .f32 := runMax v10 (load (Rect.unit ![0, 20480] S48x2048.size inb_S48x32768_S48x2048_0_20480))
  have h11 := maxUpto_step 20480 (by omega) inb_S48x32768_S48x2048_0_20480 x0 v10 v11 (load (Rect.unit ![0, 20480] S48x2048.size inb_S48x32768_S48x2048_0_20480)) j h10 (hX _) rfl
  let v12 : FVec Ideal S48x1 .f32 := runMax v11 (load (Rect.unit ![0, 22528] S48x2048.size inb_S48x32768_S48x2048_0_22528))
  have h12 := maxUpto_step 22528 (by omega) inb_S48x32768_S48x2048_0_22528 x0 v11 v12 (load (Rect.unit ![0, 22528] S48x2048.size inb_S48x32768_S48x2048_0_22528)) j h11 (hX _) rfl
  let v13 : FVec Ideal S48x1 .f32 := runMax v12 (load (Rect.unit ![0, 24576] S48x2048.size inb_S48x32768_S48x2048_0_24576))
  have h13 := maxUpto_step 24576 (by omega) inb_S48x32768_S48x2048_0_24576 x0 v12 v13 (load (Rect.unit ![0, 24576] S48x2048.size inb_S48x32768_S48x2048_0_24576)) j h12 (hX _) rfl
  let v14 : FVec Ideal S48x1 .f32 := runMax v13 (load (Rect.unit ![0, 26624] S48x2048.size inb_S48x32768_S48x2048_0_26624))
  have h14 := maxUpto_step 26624 (by omega) inb_S48x32768_S48x2048_0_26624 x0 v13 v14 (load (Rect.unit ![0, 26624] S48x2048.size inb_S48x32768_S48x2048_0_26624)) j h13 (hX _) rfl
  let v15 : FVec Ideal S48x1 .f32 := runMax v14 (load (Rect.unit ![0, 28672] S48x2048.size inb_S48x32768_S48x2048_0_28672))
  have h15 := maxUpto_step 28672 (by omega) inb_S48x32768_S48x2048_0_28672 x0 v14 v15 (load (Rect.unit ![0, 28672] S48x2048.size inb_S48x32768_S48x2048_0_28672)) j h14 (hX _) rfl
  let v16 : FVec Ideal S48x1 .f32 := runMax v15 (load (Rect.unit ![0, 30720] S48x2048.size inb_S48x32768_S48x2048_0_30720))
  have h16 := maxUpto_step 30720 (by omega) inb_S48x32768_S48x2048_0_30720 x0 v15 v16 (load (Rect.unit ![0, 30720] S48x2048.size inb_S48x32768_S48x2048_0_30720)) j h15 (hX _) rfl
  exact maxUpto_all _ _ h16

/-- The first point's count of the powers of two below a row's scaled value. -/
theorem first_count (c : Dev nD) (arg1 : Memref sig .tc .vmem S48x32768 .bf16) (harg1 : arg1.IsWhole) (x0 : Vec Ideal S48x32768 .bf16) (j : S48x1.Idx) :
    kernelRun0_A.sl.r_5 (F := Ideal) c arg1 harg1 x0 j
      = countWord (kernelRun0_A.sl.r_4 (F := Ideal) c arg1 harg1 x0 j * Ideal.ofBits .f32 991054117#32) := by
  have hj : j = ix2 (j 0) 0 := by
    funext a
    refine Fin.ext ?_
    fin_cases a
    · rfl
    · have := (j 1).isLt
      have e : S48x1.size 1 = 1 := rfl
      show (j 1).val = 0
      omega
  have h : ∀ v : FVec Ideal S48x1 .f32, subi (shapeCast S48x1 (multiReductionI .add [1] S48 (extui 32 (cmpf .oge
      (broadcastTo S48x256 (mulf v (broadcast S48x1 (Scalar.ofBits .f32 0x3B124925#32))) broadcasts_S48x1_S48x256)
      (bitcastToFloat (F := Ideal) .f32 (shli (iota .tc S48x256 32 [1] iota_S48x256_d1_w32) (broadcast S48x256 23#32)))) natLt_1_32)
      0#32 reduces_S48x256_S48 rfl) shapeCasts_S48_S48x1) (broadcast S48x1 1#32) j
      = countWord (v (ix2 (j 0) 0) * Ideal.ofBits .f32 991054117#32) := by
    intro v
    pointwise
    rfl
  exact (h (kernelRun0_A.sl.r_4 (F := Ideal) c arg1 harg1 x0)).trans
    (congrArg (fun i => countWord (kernelRun0_A.sl.r_4 (F := Ideal) c arg1 harg1 x0 i * Ideal.ofBits .f32 991054117#32)) hj.symm)

/-- The first point's scale of a row is the reference's. -/
theorem first_scale_at (c : Dev nD) (arg1 : Memref sig .tc .vmem S48x32768 .bf16) (harg1 : arg1.IsWhole) (x0 : Vec Ideal S48x32768 .bf16) (j : S48x1.Idx) :
    kernelRun0_A.sl.r_6 (F := Ideal) c arg1 harg1 x0 j = rowScale fun k => x0 (ix2 (j 0) k) := by
  have h : ∀ (a : FVec Ideal S48x1 .f32) (b : IVec S48x1 32), k0_pay9 (F := Ideal) a b 0#32 j = powWord (expWord (a j) (b j)) := by
    intro a b
    pointwise [k0_pay9, k0_pay8]
    rfl
  refine (h _ _).trans ?_
  rw [first_count, first_max, scale_eq _ _ (mul_nonneg (rowMax_nonneg _) unit_nonneg)]
  rfl

/-- The first point's inverse scale of a row is the reference's. -/
theorem first_inv_at (c : Dev nD) (arg1 : Memref sig .tc .vmem S48x32768 .bf16) (harg1 : arg1.IsWhole) (x0 : Vec Ideal S48x32768 .bf16) (j : S48x1.Idx) :
    kernelRun0_A.sl.r_7 (F := Ideal) c arg1 harg1 x0 j = rowInv fun k => x0 (ix2 (j 0) k) := by
  have h : ∀ (a : FVec Ideal S48x1 .f32) (b : IVec S48x1 32), k0_pay10 (F := Ideal) a b 0#32 j = powWord (IntOp.subi 0#32 (expWord (a j) (b j))) := by
    intro a b
    pointwise [k0_pay10, k0_pay8]
    rfl
  refine (h _ _).trans ?_
  rw [first_count, first_max, inv_eq _ _ (mul_nonneg (rowMax_nonneg _) unit_nonneg)]
  rfl

end Cert.KernelIdeal.Value

end
-- ==== Proof.Value.Points.lean ====
module

public import proofs.«01_k».proof.Proof.Value.Blocks
public import proofs.«01_k».proof.Proof.Value.Scales

/-!
# All the grid points

What the kernel's buffers hold after each point, by induction on the point: the codes and the scales are those the first
point wrote, and the accumulator is the sum of the products of the 512-column slices met so far.
-/

@[expose] public section

set_option maxRecDepth 16384

noncomputable section

namespace Cert.KernelIdeal.Value

open Cert.KernelIdeal Cert.KernelIdeal.Gen Cert.KernelIdeal.Tracked Cert.Scale
open Idealize.ShloMosaic Idealize.ShloMosaic.TcCoe Idealize.ShloMosaic.Tactic
open Idealize.SL.Sem

variable (m : (ℓ : Loc nD τ sig) → Buf (Elt Ideal) ℓ)

/-- Row `a` of `x` as the kernel finds it. -/
def xRow (c : Dev nD) (a : Fin 48) : Fin 32768 → EReal := fun k => (V m c main_v0 : Vec Ideal S48x32768 .bf16) (ix2 a k)

/-- Column `b` of the weights as the kernel finds them. -/
def wCol (c : Dev nD) (b : Fin 8192) : Fin 32768 → EReal := fun k => (V m c main_arg1 : Vec Ideal S32768x8192 .fp8e4m3) (ix2 k b)

/-- The codes of every entry of `x`. -/
def allCodes (c : Dev nD) : Vec Ideal S48x32768 .fp8e4m3 := fun y => codeOf (xRow m c (y 0) (y 1)) (rowInv (xRow m c (y 0)))

/-- The scale of every row of `x`. -/
def allScales (c : Dev nD) : Vec Ideal S48x1 .f32 := fun y => rowScale (xRow m c (y 0))

/-- The accumulator after point `n`. -/
def accAt (c : Dev nD) : (n : ℕ) → n < cfg0.N → Vec Ideal S64x8192 .f32
  | 0, h => accStep (codesAt (grid0.coords ⟨0, h⟩) (padded (allCodes m c))) (iblk m c 1 ⟨0, h⟩) (fun _ => (0 : EReal))
  | n + 1, h => accStep (codesAt (grid0.coords ⟨n + 1, h⟩) (padded (allCodes m c))) (iblk m c 1 ⟨n + 1, h⟩)
      (accAt c n (Nat.lt_of_succ_lt h))

/-- The block of `x` at a point, a row of it. -/
theorem x_row (c : Dev nD) (t : Fin cfg0.N) (a : Fin 48) :
    (fun k : Fin 32768 => (iblk m c 0 t : Vec Ideal S48x32768 .bf16) (ix2 a k)) = xRow m c a :=
  funext fun k => x_block m c t (ix2 a k)

/-- The first point's codes are the codes of every entry. -/
theorem codes_eq (c : Dev nD) (t : Fin cfg0.N) (arg1 : Memref sig .tc .vmem S48x32768 .bf16) (harg1 : arg1.IsWhole) :
    codesOf (iblk m c 0 t) (kernelRun0_A.sl.r_7 (F := Ideal) c arg1 harg1 (iblk m c 0 t)) = allCodes m c := by
  funext y
  refine congrArg₂ codeOf ?_ ((first_inv_at c arg1 harg1 _ _).trans (congrArg rowInv (x_row m c t (y 0))))
  refine (x_block m c t y).trans (congrArg (V m c main_v0 : Vec Ideal S48x32768 .bf16) ?_)
  funext a
  fin_cases a <;> rfl

/-- The first point's scales are the scales of every row. -/
theorem scales_eq (c : Dev nD) (t : Fin cfg0.N) (arg1 : Memref sig .tc .vmem S48x32768 .bf16) (harg1 : arg1.IsWhole) :
    kernelRun0_A.sl.r_6 (F := Ideal) c arg1 harg1 (iblk m c 0 t) = allScales m c := by
  funext y
  exact (first_scale_at c arg1 harg1 _ y).trans (congrArg rowScale (x_row m c t (y 0)))

/-- The accumulator after a point other than the first. -/
theorem accAt_step (c : Dev nD) (t : Fin cfg0.N) (h : t.val ≠ 0) :
    accAt m c t.val t.isLt = accStep (codesAt (grid0.coords t) (padded (allCodes m c))) (iblk m c 1 t)
      (accAt m c (t.val - 1) (Nat.lt_of_le_of_lt (Nat.sub_le _ _) t.isLt)) := by
  obtain ⟨n, hn⟩ := t
  cases n with
  | zero => exact absurd rfl h
  | succ n => rfl

/-- What the buffers other than the first result's hold after point `n`. -/
structure Holds (c : Dev nD) (n : ℕ) (h : n < cfg0.N) : Prop where
  codes : (outsAt0 m c n h).2.1 = allCodes m c
  scales : (outsAt0 m c n h).2.2.1 = allScales m c
  kept : (outsAt0 m c n h).2.2.2.1 = padded (allCodes m c)
  acc : (outsAt0 m c n h).2.2.2.2 = accAt m c n h

/-- They hold it after the first point. -/
theorem holds_first (c : Dev nD) (t : Fin cfg0.N) (h : t.val = 0) : Holds m c t.val t.isLt := by
  have h0 : t.val % 64 = 0 := by omega
  have h1 : ¬t.val % 64 = 63 := by omega
  have e := outsAt0_A m c t h0 h1
  constructor
  · rw [e]
    dsimp only
    rw [first_codes]
    exact codes_eq m c _ _ _
  · rw [e]
    dsimp only
    rw [first_scale]
    exact scales_eq m c _ _ _
  · rw [e]
    dsimp only
    unfold sout0_A_0
    rw [View.read_writes_junk_eq_canon]
    refine Eq.trans ?_ (congrArg padded (codes_eq m c t (ms0_0 t) (hs0_0 t)))
    exact first_padded c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h' => h1 ((hcond0_1 t).mp h')) (iblk m c 0 t) (iblk m c 1 t) (iblk m c 2 t)
  · rw [e]
    dsimp only
    rw [first_acc, codes_eq]
    obtain ⟨n, hn⟩ := t
    obtain rfl : n = 0 := h
    rfl

/-- A middle point keeps it. -/
theorem holds_middle (c : Dev nD) (t : Fin cfg0.N) (h0 : t.val ≠ 0) (h63 : t.val ≠ 63)
    (hp : Holds m c (t.val - 1) (Nat.lt_of_le_of_lt (Nat.sub_le _ _) t.isLt)) : Holds m c t.val t.isLt := by
  have hN := point_lt t
  have e := outsAt0_B m c t (by omega) (by omega)
  constructor
  · rw [e]
    exact hp.codes
  · rw [e]
    exact hp.scales
  · rw [e]
    exact hp.kept
  · rw [e]
    dsimp only
    rw [middle_acc, hp.kept, hp.acc, accAt_step m c t h0]

/-- They hold it after every point before the last. -/
theorem holds (c : Dev nD) : ∀ (n : ℕ) (t : Fin cfg0.N), t.val = n → n < 63 → Holds m c t.val t.isLt
  | 0, t, h, _ => holds_first m c t h
  | n + 1, t, h, hn => holds_middle m c t (by omega) (by omega)
      (holds c n ⟨t.val - 1, Nat.lt_of_le_of_lt (Nat.sub_le _ _) t.isLt⟩ (by dsimp only; omega) (by omega))

/-- After the last point the three results' buffers hold the rescaled accumulator, the codes and the scales. -/
theorem last_holds (c : Dev nD) (t : Fin cfg0.N) (h : t.val = 63) :
    (outsAt0 m c t.val t.isLt).1 = rescaled (accAt m c t.val t.isLt) (allScales m c) (iblk m c 2 t)
      ∧ (outsAt0 m c t.val t.isLt).2.1 = allCodes m c ∧ (outsAt0 m c t.val t.isLt).2.2.1 = allScales m c := by
  have hp := holds m c 62 ⟨t.val - 1, Nat.lt_of_le_of_lt (Nat.sub_le _ _) t.isLt⟩ (by dsimp only; omega) (by omega)
  have e := outsAt0_C m c t (by omega) (by omega)
  refine ⟨?_, ?_, ?_⟩
  · rw [e]
    dsimp only
    rw [last_result, hp.scales, hp.kept, hp.acc, accAt_step m c t (by omega)]
  · rw [e]
    exact hp.codes
  · rw [e]
    exact hp.scales

/-- The products of the 512 columns of point `t`, at row `a` and column `b`. -/
def slice (c : Dev nD) (y : S64x8192.Idx) (t : Fin 64) : EReal :=
  ∑ k : Fin 512, (padded (allCodes m c) (ix2 (y 0) ⟨t.val * 512 + k.val, by omega⟩) : EReal)
    * wCol m c (y 1) ⟨t.val * 512 + k.val, by omega⟩

/-- One step adds the point's slice. -/
theorem step_at (c : Dev nD) (t : Fin cfg0.N) (acc : Vec Ideal S64x8192 .f32) (y : S64x8192.Idx) :
    accStep (codesAt (grid0.coords t) (padded (allCodes m c))) (iblk m c 1 t) acc y
      = (acc y : EReal) + slice m c y ⟨t.val, point_lt t⟩ := by
  refine congrArg (fun z : EReal => (acc y : EReal) + z) (Finset.sum_congr rfl fun k _ => ?_)
  exact congrArg₂ (fun u v : EReal => u * v) (codesAt_at t _ (y 0) k) (w_block m c t k (y 1))

/-- The accumulator after point `n` is the sum of the slices up to it. -/
theorem accAt_at (c : Dev nD) (y : S64x8192.Idx) : ∀ (n : ℕ) (h : n < cfg0.N),
    accAt m c n h y = ∑ t : Fin (n + 1), slice m c y ⟨t.val, by have : cfg0.N = 64 := N_0; omega⟩
  | 0, h => by
    refine (step_at m c ⟨0, h⟩ _ y).trans ?_
    rw [zero_add, Fin.sum_univ_one]
    rfl
  | n + 1, h => by
    refine (step_at m c ⟨n + 1, h⟩ _ y).trans ?_
    rw [accAt_at c y n (Nat.lt_of_succ_lt h), Fin.sum_univ_castSucc (n := n + 1)]
    rfl

/-- The slices of all the points make the whole product of a row and a column. -/
theorem slices_sum (c : Dev nD) (a : Fin 48) (b : Fin 8192) :
    ∑ t : Fin 64, slice m c (ix2 (a.castLE (by decide)) b) t
      = ∑ k : Fin 32768, codeOf (xRow m c a k) (rowInv (xRow m c a)) * wCol m c b k := by
  refine Eq.trans ?_ (Fin.sum_univ_tiles 64 512 (by decide) (fun k : Fin 32768 => codeOf (xRow m c a k) (rowInv (xRow m c a)) * wCol m c b k)).symm
  refine Finset.sum_congr rfl fun t _ => Finset.sum_congr rfl fun k _ => ?_
  exact congrArg (fun z : EReal => z * wCol m c b ⟨t.val * 512 + k.val, by omega⟩) (dif_pos a.isLt)

/-- The first result, entry by entry, is the stated function of the row, the column and the column's scale. -/
theorem result_at (c : Dev nD) (t : Fin cfg0.N) (h : t.val = 63) (j : S48x8192.Idx) :
    (outsAt0 m c t.val t.isLt).1 j
      = entry (xRow m c (j 0)) (wCol m c (j 1)) ((V m c main_v1 : Vec Ideal S1x8192 .f32) (ix2 0 (j 1))) := by
  rw [(last_holds m c t h).1]
  have hacc : accAt m c t.val t.isLt (ix2 ((j 0).castLE (by decide)) (j 1))
      = ∑ k : Fin 32768, codeOf (xRow m c (j 0) k) (rowInv (xRow m c (j 0))) * wCol m c (j 1) k := by
    obtain ⟨n, hn⟩ := t
    obtain rfl : n = 63 := h
    exact (accAt_at m c _ 63 hn).trans (slices_sum m c (j 0) (j 1))
  show gelu (_ * _ * _) = gelu (_ * _ * _)
  exact congrArg gelu (congrArg₂ (fun u v : EReal => u * v) (congrArg (fun u : EReal => u * rowScale (xRow m c (j 0))) hacc) (s_block m c t _))

end Cert.KernelIdeal.Value

end
-- ==== Proof.Value.Result.lean ====
module

public import proofs.«01_k».proof.Proof.Value.Points
public import Idealize.ShloMosaic.Lib.Pipeline.Value

/-!
# The kernel's results

What the three result arrays hold when the kernel has run: each is written back once, after the last point, by a block
that is the whole array.
-/

@[expose] public section

set_option maxRecDepth 16384

noncomputable section

namespace Cert.KernelIdeal.Value

open Cert.KernelIdeal Cert.KernelIdeal.Gen Cert.KernelIdeal.Tracked Cert.Scale
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The first result: the activation of every rescaled product. -/
def allResults (c : Dev nD) : Vec Ideal S48x8192 .bf16 := fun j =>
  entry (xRow m c (j 0)) (wCol m c (j 1)) ((V m c main_v1 : Vec Ideal S1x8192 .f32) (ix2 0 (j 1)))

/-- The last point. -/
abbrev lastPoint : Fin cfg0.N := ⟨63, lt_of_lt_of_eq (by decide) N_0.symm⟩

/-- A point that writes a result back is the last. -/
theorem eq_last (t : Fin cfg0.N) (h : t.val % 64 = 63) : t = lastPoint := by
  have := point_lt t
  exact Fin.ext (by show t.val = 63; omega)

/-- The block of result 3 at the last point begins at the array's corner. -/
theorem corner3 : (fun a => win0_3.index lastPoint a * main_v2_0.ty.shape.size a) = fun _ => 0 :=
  funext fun a => by fin_cases a <;> decide +kernel

/-- What is written back to the array of result 0 is the whole of it. -/
theorem flushed3_eq (c : Dev nD) (t : Fin cfg0.N) (hf : (cfg0.win 3).flush t = true) :
    (dats m 0 c).flushed 3 t = ((cfg0.win 3).blk t).view.read (Elt Ideal) (allResults m c) := by
  obtain rfl := eq_last t ((flush0_3 t).mp hf)
  show (cfg0.win 3).cut (grid0.coords lastPoint) ((dats m 0 c).after 3 lastPoint) = _
  rw [after0_3]
  refine Eq.trans ?_ (Memref.read_access_unit_zero (Elt Ideal) main_v2_0 corner3 (fun a => by rw [congrFun corner3 a]; simp) (allResults m c)).symm
  exact funext fun j => result_at m c lastPoint rfl j

/-- So the array of result 0 ends holding it. -/
theorem final3 (c : Dev nD) : (dats m 0 c).arrAt 3 cfg0.N = allResults m c :=
  (dats m 0 c).arrAt_eq_of_cover 3 (allResults m c) (flushed3_eq m c) fun i =>
    ⟨lastPoint, (flush0_3 lastPoint).mpr rfl, by
      show i ∈ ((View.whole main_v2_0).slice (win0_3.rect lastPoint)).set
      rw [View.set_slice_whole, Rect.mem_set_unit]
      intro a
      have h0 : (i 0 : Nat) < 48 := (i 0).isLt
      have h1 : (i 1 : Nat) < 8192 := (i 1).isLt
      match a with
      | ⟨0, _⟩ => show win0_3.index lastPoint 0 * win0_3.size 0 ≤ (i 0 : Nat) ∧ (i 0 : Nat) < win0_3.index lastPoint 0 * win0_3.size 0 + win0_3.xsize (grid0.coords lastPoint) 0
                  rw [show win0_3.index lastPoint 0 * win0_3.size 0 = 0 from by decide +kernel, show win0_3.xsize (grid0.coords lastPoint) 0 = 48 from by decide +kernel]; omega
      | ⟨1, _⟩ => show win0_3.index lastPoint 1 * win0_3.size 1 ≤ (i 1 : Nat) ∧ (i 1 : Nat) < win0_3.index lastPoint 1 * win0_3.size 1 + win0_3.xsize (grid0.coords lastPoint) 1
                  rw [show win0_3.index lastPoint 1 * win0_3.size 1 = 0 from by decide +kernel, show win0_3.xsize (grid0.coords lastPoint) 1 = 8192 from by decide +kernel]; omega⟩

/-- The block of result 4 at the last point begins at the array's corner. -/
theorem corner4 : (fun a => win0_4.index lastPoint a * main_v2_1.ty.shape.size a) = fun _ => 0 :=
  funext fun a => by fin_cases a <;> decide +kernel

/-- What is written back to the array of result 1 is the whole of it. -/
theorem flushed4_eq (c : Dev nD) (t : Fin cfg0.N) (hf : (cfg0.win 4).flush t = true) :
    (dats m 0 c).flushed 4 t = ((cfg0.win 4).blk t).view.read (Elt Ideal) (allCodes m c) := by
  obtain rfl := eq_last t ((flush0_4 t).mp hf)
  show (cfg0.win 4).cut (grid0.coords lastPoint) ((dats m 0 c).after 4 lastPoint) = _
  rw [after0_4]
  refine Eq.trans ?_ (Memref.read_access_unit_zero (Elt Ideal) main_v2_1 corner4 (fun a => by rw [congrFun corner4 a]; simp) (allCodes m c)).symm
  exact (last_holds m c lastPoint rfl).2.1

/-- So the array of result 1 ends holding it. -/
theorem final4 (c : Dev nD) : (dats m 0 c).arrAt 4 cfg0.N = allCodes m c :=
  (dats m 0 c).arrAt_eq_of_cover 4 (allCodes m c) (flushed4_eq m c) fun i =>
    ⟨lastPoint, (flush0_4 lastPoint).mpr rfl, by
      show i ∈ ((View.whole main_v2_1).slice (win0_4.rect lastPoint)).set
      rw [View.set_slice_whole, Rect.mem_set_unit]
      intro a
      have h0 : (i 0 : Nat) < 48 := (i 0).isLt
      have h1 : (i 1 : Nat) < 32768 := (i 1).isLt
      match a with
      | ⟨0, _⟩ => show win0_4.index lastPoint 0 * win0_4.size 0 ≤ (i 0 : Nat) ∧ (i 0 : Nat) < win0_4.index lastPoint 0 * win0_4.size 0 + win0_4.xsize (grid0.coords lastPoint) 0
                  rw [show win0_4.index lastPoint 0 * win0_4.size 0 = 0 from by decide +kernel, show win0_4.xsize (grid0.coords lastPoint) 0 = 48 from by decide +kernel]; omega
      | ⟨1, _⟩ => show win0_4.index lastPoint 1 * win0_4.size 1 ≤ (i 1 : Nat) ∧ (i 1 : Nat) < win0_4.index lastPoint 1 * win0_4.size 1 + win0_4.xsize (grid0.coords lastPoint) 1
                  rw [show win0_4.index lastPoint 1 * win0_4.size 1 = 0 from by decide +kernel, show win0_4.xsize (grid0.coords lastPoint) 1 = 32768 from by decide +kernel]; omega⟩

/-- The block of result 5 at the last point begins at the array's corner. -/
theorem corner5 : (fun a => win0_5.index lastPoint a * main_v2_2.ty.shape.size a) = fun _ => 0 :=
  funext fun a => by fin_cases a <;> decide +kernel

/-- What is written back to the array of result 2 is the whole of it. -/
theorem flushed5_eq (c : Dev nD) (t : Fin cfg0.N) (hf : (cfg0.win 5).flush t = true) :
    (dats m 0 c).flushed 5 t = ((cfg0.win 5).blk t).view.read (Elt Ideal) (allScales m c) := by
  obtain rfl := eq_last t ((flush0_5 t).mp hf)
  show (cfg0.win 5).cut (grid0.coords lastPoint) ((dats m 0 c).after 5 lastPoint) = _
  rw [after0_5]
  refine Eq.trans ?_ (Memref.read_access_unit_zero (Elt Ideal) main_v2_2 corner5 (fun a => by rw [congrFun corner5 a]; simp) (allScales m c)).symm
  exact (last_holds m c lastPoint rfl).2.2

/-- So the array of result 2 ends holding it. -/
theorem final5 (c : Dev nD) : (dats m 0 c).arrAt 5 cfg0.N = allScales m c :=
  (dats m 0 c).arrAt_eq_of_cover 5 (allScales m c) (flushed5_eq m c) fun i =>
    ⟨lastPoint, (flush0_5 lastPoint).mpr rfl, by
      show i ∈ ((View.whole main_v2_2).slice (win0_5.rect lastPoint)).set
      rw [View.set_slice_whole, Rect.mem_set_unit]
      intro a
      have h0 : (i 0 : Nat) < 48 := (i 0).isLt
      have h1 : (i 1 : Nat) < 1 := (i 1).isLt
      match a with
      | ⟨0, _⟩ => show win0_5.index lastPoint 0 * win0_5.size 0 ≤ (i 0 : Nat) ∧ (i 0 : Nat) < win0_5.index lastPoint 0 * win0_5.size 0 + win0_5.xsize (grid0.coords lastPoint) 0
                  rw [show win0_5.index lastPoint 0 * win0_5.size 0 = 0 from by decide +kernel, show win0_5.xsize (grid0.coords lastPoint) 0 = 48 from by decide +kernel]; omega
      | ⟨1, _⟩ => show win0_5.index lastPoint 1 * win0_5.size 1 ≤ (i 1 : Nat) ∧ (i 1 : Nat) < win0_5.index lastPoint 1 * win0_5.size 1 + win0_5.xsize (grid0.coords lastPoint) 1
                  rw [show win0_5.index lastPoint 1 * win0_5.size 1 = 0 from by decide +kernel, show win0_5.xsize (grid0.coords lastPoint) 1 = 1 from by decide +kernel]; omega⟩

/-- Every run of the kernel ends with the three results and the arguments as launched. -/
theorem run : θ_run defs (onTc (τ := τ) (main (F := Ideal))) ⟨m, fun _ => 0, ρ⟩ fun r => ∀ c : Dev nD,
      r.2.mem ((c : Thread nD τ).loc main_v2_0) = allResults m c
      ∧ r.2.mem ((c : Thread nD τ).loc main_v2_1) = allCodes m c
      ∧ r.2.mem ((c : Thread nD τ).loc main_v2_2) = allScales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Value

end
-- ==== Proof.Reference.Pieces.lean ====
module

public import proofs.«01_k».proof.Proof.Gen.ReferenceIdeal.Frame
public import proofs.«01_k».proof.Proof.Math.Spec
public import Idealize.ShloMosaic.Lib.Pointwise

/-!
# The reference's three results, read at an index
-/

@[expose] public section

set_option maxRecDepth 16384

noncomputable section

namespace Cert.ReferenceIdeal.Value

open Cert.ReferenceIdeal Cert.ReferenceIdeal.Gen Cert.Scale
open Idealize.ShloMosaic
open Idealize.SL.Sem

/-- The row maximum, as a column, at a row. -/
theorem rowMax_at (x : Vec Ideal S48x32768 .bf16) (j) :
    shapeCast S48x1 (multiReduction (F := Ideal) .maximumf [1] S48 (absf (k0_pay2 x)) 0xFF800000#32
      reduces_S48x32768_S48 (.inl rfl) rfl) shapeCasts_S48_S48x1 j = rowMax fun k => x (ix2 (j 0) k) := by
  have h : ∀ v : FVec Ideal S48x32768 .f32, shapeCast S48x1 (multiReduction (F := Ideal) .maximumf [1] S48 v
      0xFF800000#32 reduces_S48x32768_S48 (.inl rfl) rfl) shapeCasts_S48_S48x1 j
      = Finset.fold max (Ideal.ofBits FTy.f32 4286578688#32) (fun k => v (ix2 (j 0) k)) Finset.univ := by
    intro v
    pointwise
  have h' : ∀ i, absf (k0_pay2 x) i = FloatOps.absf (F := Ideal) (φ := .f32) (x i) := by
    intro i
    pointwise [k0_pay2]
  refine (h _).trans ?_
  unfold rowMax
  exact congrArg (fun f => Finset.fold max (Ideal.ofBits FTy.f32 4286578688#32) f Finset.univ)
    (funext fun k => h' _)

/-- The exponent of a row. -/
theorem exp_at (x : Vec Ideal S48x32768 .bf16) (j) :
    k0_pay3 (F := Ideal) x j = rowExp fun k => x (ix2 (j 0) k) := by
  have h1 : ∀ v7 : FVec Ideal S48x1 .f32,
      (minimumf (addf (floor (divf (log v7) (log (broadcast S48x1 (Scalar.ofBits .f32 0x40000000#32)))))
        (broadcast S48x1 (Scalar.ofBits .f32 0x3F800000#32))) (broadcast S48x1 (Scalar.ofBits .f32 0x43000000#32))) j
      = (min (Ideal.liftRound Int.floor (Ideal.div (Ideal.log (v7 j)) (Ideal.log (Ideal.ofBits .f32 1073741824#32))) + 1)
        (Ideal.ofBits .f32 1124073472#32) : EReal) := by
    intro v7
    pointwise
  have h2 : ∀ v7 v16 a : FVec Ideal S48x1 .f32,
      (select (cmpf .oeq a (broadcast S48x1 (Scalar.ofBits .f32 0x00000000#32)))
        (broadcast S48x1 (Scalar.ofBits .f32 0x00000000#32))
        (select (ori (cmpf .olt v7 (broadcast S48x1 (Scalar.ofBits .f32 0x00800000#32)))
          (cmpf .oeq v7 (broadcast S48x1 (Scalar.ofBits .f32 0x7F800000#32))))
          (broadcast S48x1 (Scalar.ofBits .f32 0x00000000#32)) v16)) j
      = if a j = 0 then 0 else
          Scalar.select (IntOp.ori (BitVec.ofBool (decide (v7 j < Ideal.ofBits FTy.f32 8388608#32)))
            (BitVec.ofBool (decide (v7 j = Ideal.ofBits FTy.f32 2139095040#32)))) 0 (v16 j) := by
    intro v7 v16 a
    pointwise
  have h3 : ∀ a : FVec Ideal S48x1 .f32, mulf a (broadcast S48x1 (Scalar.ofBits .f32 0x3B124925#32)) j
      = a j * Ideal.ofBits .f32 991054117#32 := by
    intro a
    pointwise
  have e : ∀ a : FVec Ideal S48x1 .f32,
      (select (cmpf .oeq a (broadcast S48x1 (Scalar.ofBits .f32 0x00000000#32)))
        (broadcast S48x1 (Scalar.ofBits .f32 0x00000000#32))
        (select (ori (cmpf .olt (mulf a (broadcast S48x1 (Scalar.ofBits .f32 0x3B124925#32))) (broadcast S48x1 (Scalar.ofBits .f32 0x00800000#32)))
          (cmpf .oeq (mulf a (broadcast S48x1 (Scalar.ofBits .f32 0x3B124925#32))) (broadcast S48x1 (Scalar.ofBits .f32 0x7F800000#32))))
          (broadcast S48x1 (Scalar.ofBits .f32 0x00000000#32))
          (minimumf (addf (floor (divf (log (mulf a (broadcast S48x1 (Scalar.ofBits .f32 0x3B124925#32)))) (log (broadcast S48x1 (Scalar.ofBits .f32 0x40000000#32)))))
            (broadcast S48x1 (Scalar.ofBits .f32 0x3F800000#32))) (broadcast S48x1 (Scalar.ofBits .f32 0x43000000#32))))) j
      = refExp (a j) (a j * Ideal.ofBits .f32 991054117#32) := by
    intro a
    rw [h2, h1, h3]
    rfl
  unfold k0_pay3
  refine (e _).trans ?_
  rw [rowMax_at]
  rfl

/-- The codes. -/
theorem codes_at (x : Vec Ideal S48x32768 .bf16) (j) :
    k0_pay5 (F := Ideal) x j = codeOf (x j) (rowInv fun k => x (ix2 (j 0) k)) := by
  have h1 : ∀ v31 : FVec Ideal S48x1 .f32,
      (truncf .fp8e4m3 (minimumf (broadcast S48x32768 (Scalar.ofBits .f32 0x43E00000#32))
        (maximumf (broadcast S48x32768 (Scalar.ofBits .f32 0xC3E00000#32)) (mulf (k0_pay2 (F := Ideal) x)
          (broadcastTo S48x32768 v31 broadcasts_S48x1_S48x32768)))) bitsLt_fp8e4m3_f32) j
      = codeOf (x j) (v31 (ix2 (j 0) 0)) := by
    intro v31
    pointwise [k0_pay2]
    rfl
  have h2 : ∀ (e : FVec Ideal S48x1 .f32) i, exp2 (subf (broadcast S48x1 (Scalar.ofBits .f32 0x00000000#32)) e) i
      = FloatOps.exp2 (F := Ideal) (φ := .f32) (0 - e i) := by
    intro e i
    pointwise
  unfold k0_pay5
  refine (h1 _).trans ?_
  rw [h2, exp_at]
  rfl

/-- The scales. -/
theorem scale_at (x : Vec Ideal S48x32768 .bf16) (j) :
    k0_pay4 (F := Ideal) x j = rowScale fun k => x (ix2 (j 0) k) := by
  have h : k0_pay4 (F := Ideal) x j = FloatOps.exp2 (F := Ideal) (φ := .f32) (k0_pay3 (F := Ideal) x j) := rfl
  rw [h, exp_at]
  rfl

/-- The product. -/
theorem product_at (x : Vec Ideal S48x32768 .bf16) (w : Vec Ideal S32768x8192 .fp8e4m3) (j) :
    k0_pay6 (F := Ideal) x w j
      = ∑ k : Fin 32768, codeOf (x (ix2 (j 0) k)) (rowInv fun k => x (ix2 (j 0) k)) * w (ix2 k (j 1)) := by
  have h : k0_pay6 (F := Ideal) x w j = ∑ k : Fin 32768, k0_pay5 (F := Ideal) x (ix2 (j 0) k) * w (ix2 k (j 1)) := by
    pointwise [k0_pay6]
  rw [h]
  exact Finset.sum_congr rfl fun k _ => by rw [codes_at]; rfl

/-- The first result. -/
theorem result_at (x : Vec Ideal S48x32768 .bf16) (w : Vec Ideal S32768x8192 .fp8e4m3) (s : Vec Ideal S1x8192 .f32) (j) :
    k0_pay1 (F := Ideal) (k0_pay6 x w) (k0_pay7 x) s j
      = entry (fun k => x (ix2 (j 0) k)) (fun k => w (ix2 k (j 1))) (s (ix2 0 (j 1))) := by
  have h : ∀ (a b : FVec Ideal S48x8192 .f32), k0_pay1 (F := Ideal) a b s j = gelu (a j * b j * s (ix2 0 (j 1))) := by
    intro a b
    pointwise [k0_pay1]
    rfl
  have h7 : ∀ c : FVec Ideal S48x1 .f32, broadcastTo S48x8192 c broadcasts_S48x1_S48x8192 j = c (ix2 (j 0) 0) := by
    intro c
    pointwise
  rw [h, product_at]
  unfold k0_pay7
  rw [h7, scale_at]
  rfl

end Cert.ReferenceIdeal.Value

end
-- ==== Proof.Reference.Result.lean ====
module

public import proofs.«01_k».proof.Proof.Reference.Pieces
public import Idealize.ShloMosaic.Lib.Pipeline.Value

/-!
# The reference's results

What the three result arrays hold when the reference has run: its one point reads each operand whole and writes each
result whole.
-/

@[expose] public section

set_option maxRecDepth 16384

noncomputable section

namespace Cert.ReferenceIdeal.Value

open Cert.ReferenceIdeal Cert.ReferenceIdeal.Gen Cert.Scale
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- Row `a` of `x` as the reference finds it. -/
def xRow (c : Dev nD) (a : Fin 48) : Fin 32768 → EReal := fun k => (V m c main_v0 : Vec Ideal S48x32768 .bf16) (ix2 a k)

/-- Column `b` of the weights as the reference finds them. -/
def wCol (c : Dev nD) (b : Fin 8192) : Fin 32768 → EReal := fun k => (V m c main_arg1 : Vec Ideal S32768x8192 .fp8e4m3) (ix2 k b)

/-- The first result: the activation of every rescaled product. -/
def allResults (c : Dev nD) : Vec Ideal S48x8192 .bf16 := fun j =>
  entry (xRow m c (j 0)) (wCol m c (j 1)) ((V m c main_v1 : Vec Ideal S1x8192 .f32) (ix2 0 (j 1)))

/-- The codes of every entry of `x`. -/
def allCodes (c : Dev nD) : Vec Ideal S48x32768 .fp8e4m3 := fun y => codeOf (xRow m c (y 0) (y 1)) (rowInv (xRow m c (y 0)))

/-- The scale of every row of `x`. -/
def allScales (c : Dev nD) : Vec Ideal S48x1 .f32 := fun y => rowScale (xRow m c (y 0))

/-- Two zero offsets. -/
theorem offsets : (![0, 0] : Fin 2 → Nat) = fun _ => 0 := funext fun a => by fin_cases a <;> rfl

/-- The block of operand 0 at the one point is the whole operand. -/
theorem block0 (c : Dev nD) (t : Fin cfg0.N) : (iblk m c 0 t : Vec Ideal S48x32768 .bf16) = (V m c main_v0 : Vec Ideal S48x32768 .bf16) := by
  obtain rfl := fin_N0 t
  unfold iblk
  exact Memref.read_access_unit_zero (Elt Ideal) main_v0 (funext fun a => by fin_cases a <;> decide +kernel) (fun a => by fin_cases a <;> decide +kernel) (V m c main_v0)

/-- The block of operand 1 at the one point is the whole operand. -/
theorem block1 (c : Dev nD) (t : Fin cfg0.N) : (iblk m c 1 t : Vec Ideal S32768x8192 .fp8e4m3) = (V m c main_arg1 : Vec Ideal S32768x8192 .fp8e4m3) := by
  obtain rfl := fin_N0 t
  unfold iblk
  exact Memref.read_access_unit_zero (Elt Ideal) main_arg1 (funext fun a => by fin_cases a <;> decide +kernel) (fun a => by fin_cases a <;> decide +kernel) (V m c main_arg1)

/-- The block of operand 2 at the one point is the whole operand. -/
theorem block2 (c : Dev nD) (t : Fin cfg0.N) : (iblk m c 2 t : Vec Ideal S1x8192 .f32) = (V m c main_v1 : Vec Ideal S1x8192 .f32) := by
  obtain rfl := fin_N0 t
  unfold iblk
  exact Memref.read_access_unit_zero (Elt Ideal) main_v1 (funext fun a => by fin_cases a <;> decide +kernel) (fun a => by fin_cases a <;> decide +kernel) (V m c main_v1)

/-- The body's first result. -/
theorem out3_eq (c : Dev nD) (t : Fin cfg0.N) : out0_3 (F := Ideal) (iblk m c 0 t) (iblk m c 1 t) (iblk m c 2 t) = allResults m c := by
  rw [block0, block1, block2]
  unfold out0_3
  rw [View.canon_unit_zero offsets, View.ld_unit_zero (S := S48x32768) offsets, View.ld_unit_zero (S := S32768x8192) offsets, View.ld_unit_zero (S := S1x8192) offsets]
  funext j
  refine (result_at (V m c main_v0) (V m c main_arg1) (V m c main_v1) j).trans ?_
  unfold allResults xRow wCol
  rfl

/-- The body's second result. -/
theorem out4_eq (c : Dev nD) (t : Fin cfg0.N) : out0_4 (F := Ideal) (iblk m c 0 t) (iblk m c 1 t) (iblk m c 2 t) = allCodes m c := by
  rw [block0]
  unfold out0_4
  rw [View.canon_unit_zero offsets, View.ld_unit_zero (S := S48x32768) offsets]
  funext j
  refine (codes_at (V m c main_v0) j).trans ?_
  have hj : j = ix2 (j 0) (j 1) := funext fun a => by fin_cases a <;> rfl
  have h : (V m c main_v0 : Vec Ideal S48x32768 .bf16) j = xRow m c (j 0) (j 1) := congrArg (V m c main_v0 : Vec Ideal S48x32768 .bf16) hj
  unfold allCodes
  rw [h]
  rfl

/-- The body's third result. -/
theorem out5_eq (c : Dev nD) (t : Fin cfg0.N) : out0_5 (F := Ideal) (iblk m c 0 t) (iblk m c 1 t) (iblk m c 2 t) = allScales m c := by
  rw [block0]
  unfold out0_5
  rw [View.canon_unit_zero offsets, View.ld_unit_zero (S := S48x32768) offsets]
  exact funext fun j => scale_at _ j

/-- The block of result 3 at the one point begins at the array's corner. -/
theorem corner3 : (fun a => win0_3.index t0_0 a * main_v2_0.ty.shape.size a) = fun _ => 0 :=
  funext fun a => by fin_cases a <;> decide +kernel

/-- What is written back to the array of result 0 is the whole of it. -/
theorem flushed3_eq (c : Dev nD) (t : Fin cfg0.N) (hf : (cfg0.win 3).flush t = true) :
    (dats m 0 c).flushed 3 t = ((cfg0.win 3).blk t).view.read (Elt Ideal) (allResults m c) := by
  obtain rfl := fin_N0 t
  show (cfg0.win 3).cut (grid0.coords t0_0) ((dats m 0 c).after 3 t0_0) = _
  rw [after0_3]
  refine Eq.trans ?_ (Memref.read_access_unit_zero (Elt Ideal) main_v2_0 corner3 (fun a => by rw [congrFun corner3 a]; simp) (allResults m c)).symm
  exact out3_eq m c t0_0

/-- So the array of result 0 ends holding it. -/
theorem final3 (c : Dev nD) : (dats m 0 c).arrAt 3 cfg0.N = allResults m c :=
  (dats m 0 c).arrAt_eq_of_cover 3 (allResults m c) (flushed3_eq m c) fun i =>
    ⟨t0_0, flush0_3 t0_0, by
      show i ∈ ((View.whole main_v2_0).slice (win0_3.rect t0_0)).set
      rw [View.set_slice_whole, Rect.mem_set_unit]
      intro a
      have h0 : (i 0 : Nat) < 48 := (i 0).isLt
      have h1 : (i 1 : Nat) < 8192 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 48 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 8192 from by decide +kernel]; omega⟩

/-- The block of result 4 at the one point begins at the array's corner. -/
theorem corner4 : (fun a => win0_4.index t0_0 a * main_v2_1.ty.shape.size a) = fun _ => 0 :=
  funext fun a => by fin_cases a <;> decide +kernel

/-- What is written back to the array of result 1 is the whole of it. -/
theorem flushed4_eq (c : Dev nD) (t : Fin cfg0.N) (hf : (cfg0.win 4).flush t = true) :
    (dats m 0 c).flushed 4 t = ((cfg0.win 4).blk t).view.read (Elt Ideal) (allCodes m c) := by
  obtain rfl := fin_N0 t
  show (cfg0.win 4).cut (grid0.coords t0_0) ((dats m 0 c).after 4 t0_0) = _
  rw [after0_4]
  refine Eq.trans ?_ (Memref.read_access_unit_zero (Elt Ideal) main_v2_1 corner4 (fun a => by rw [congrFun corner4 a]; simp) (allCodes m c)).symm
  exact out4_eq m c t0_0

/-- So the array of result 1 ends holding it. -/
theorem final4 (c : Dev nD) : (dats m 0 c).arrAt 4 cfg0.N = allCodes m c :=
  (dats m 0 c).arrAt_eq_of_cover 4 (allCodes m c) (flushed4_eq m c) fun i =>
    ⟨t0_0, flush0_4 t0_0, by
      show i ∈ ((View.whole main_v2_1).slice (win0_4.rect t0_0)).set
      rw [View.set_slice_whole, Rect.mem_set_unit]
      intro a
      have h0 : (i 0 : Nat) < 48 := (i 0).isLt
      have h1 : (i 1 : Nat) < 32768 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 48 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 32768 from by decide +kernel]; omega⟩

/-- The block of result 5 at the one point begins at the array's corner. -/
theorem corner5 : (fun a => win0_5.index t0_0 a * main_v2_2.ty.shape.size a) = fun _ => 0 :=
  funext fun a => by fin_cases a <;> decide +kernel

/-- What is written back to the array of result 2 is the whole of it. -/
theorem flushed5_eq (c : Dev nD) (t : Fin cfg0.N) (hf : (cfg0.win 5).flush t = true) :
    (dats m 0 c).flushed 5 t = ((cfg0.win 5).blk t).view.read (Elt Ideal) (allScales m c) := by
  obtain rfl := fin_N0 t
  show (cfg0.win 5).cut (grid0.coords t0_0) ((dats m 0 c).after 5 t0_0) = _
  rw [after0_5]
  refine Eq.trans ?_ (Memref.read_access_unit_zero (Elt Ideal) main_v2_2 corner5 (fun a => by rw [congrFun corner5 a]; simp) (allScales m c)).symm
  exact out5_eq m c t0_0

/-- So the array of result 2 ends holding it. -/
theorem final5 (c : Dev nD) : (dats m 0 c).arrAt 5 cfg0.N = allScales m c :=
  (dats m 0 c).arrAt_eq_of_cover 5 (allScales m c) (flushed5_eq m c) fun i =>
    ⟨t0_0, flush0_5 t0_0, by
      show i ∈ ((View.whole main_v2_2).slice (win0_5.rect t0_0)).set
      rw [View.set_slice_whole, Rect.mem_set_unit]
      intro a
      have h0 : (i 0 : Nat) < 48 := (i 0).isLt
      have h1 : (i 1 : Nat) < 1 := (i 1).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 48 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 1 from by decide +kernel]; omega⟩

/-- Every run of the reference ends with the three results and the arguments as launched. -/
theorem run : θ_run defs (onTc (τ := τ) (main (F := Ideal))) ⟨m, fun _ => 0, ρ⟩ fun r => ∀ c : Dev nD,
      r.2.mem ((c : Thread nD τ).loc main_v2_0) = allResults m c
      ∧ r.2.mem ((c : Thread nD τ).loc main_v2_1) = allCodes m c
      ∧ r.2.mem ((c : Thread nD τ).loc main_v2_2) = allScales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Value

end
-- ==== Proof.Agree.lean ====
module

public import proofs.«01_k».proof.Proof.Value.Result
public import proofs.«01_k».proof.Proof.Reference.Result

/-!
# The results agree

From memories that agree on the arguments the kernel and the reference find equal operands, so their three results are
the same functions of them.
-/

@[expose] public section

set_option maxRecDepth 16384

noncomputable section

open Idealize.ShloMosaic Idealize.ShloMosaic.TcCoe Idealize.ShloMosaic.Tactic
open Idealize.SL.Sem Cert.Scale

namespace Cert.KernelIdeal.Value

open Cert.KernelIdeal Cert.KernelIdeal.Gen

variable (m : (ℓ : Loc nD τ sig) → Buf (Elt Ideal) ℓ)

/-- The kernel finds the first argument reshaped. -/
theorem x_found (c : Dev nD) : (V m c main_v0 : Vec Ideal S48x32768 .bf16)
    = shapeCast S48x32768 (m ((c : Thread nD τ).loc main_arg0) : Vec Ideal S48x1x32768 .bf16) shapeCasts_S48x1x32768_S48x32768 := by
  show StableHlo.after hostOps0 _ (Proc.devRef .tc main_v0) = _
  after_results
  rfl

/-- The kernel finds the third argument reshaped. -/
theorem s_found (c : Dev nD) : (V m c main_v1 : Vec Ideal S1x8192 .f32)
    = shapeCast S1x8192 (m ((c : Thread nD τ).loc main_arg2) : Vec Ideal S8192 .f32) shapeCasts_S8192_S1x8192 := by
  show StableHlo.after hostOps0 _ (Proc.devRef .tc main_v1) = _
  after_results
  rfl

end Cert.KernelIdeal.Value

namespace Cert.ReferenceIdeal.Value

open Cert.ReferenceIdeal Cert.ReferenceIdeal.Gen

variable (m : (ℓ : Loc nD τ sig) → Buf (Elt Ideal) ℓ)

/-- The reference finds the first argument reshaped. -/
theorem x_found (c : Dev nD) : (V m c main_v0 : Vec Ideal S48x32768 .bf16)
    = shapeCast S48x32768 (m ((c : Thread nD τ).loc main_arg0) : Vec Ideal S48x1x32768 .bf16) shapeCasts_S48x1x32768_S48x32768 := by
  show StableHlo.after hostOps0 _ (Proc.devRef .tc main_v0) = _
  after_results
  rfl

/-- The reference finds the third argument reshaped. -/
theorem s_found (c : Dev nD) : (V m c main_v1 : Vec Ideal S1x8192 .f32)
    = shapeCast S1x8192 (m ((c : Thread nD τ).loc main_arg2) : Vec Ideal S8192 .f32) shapeCasts_S8192_S1x8192 := by
  show StableHlo.after hostOps0 _ (Proc.devRef .tc main_v1) = _
  after_results
  rfl

end Cert.ReferenceIdeal.Value

namespace Cert.Agree

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The rows of `x` agree. -/
theorem xRow_eq (h : m' ((c.tc : Thread ReferenceIdeal.nD ReferenceIdeal.τ).loc ReferenceIdeal.main_arg0)
      = m ((c.tc : Thread KernelIdeal.nD KernelIdeal.τ).loc KernelIdeal.main_arg0)) (a : Fin 48) :
    ReferenceIdeal.Value.xRow m' c a = KernelIdeal.Value.xRow m c a := by
  unfold ReferenceIdeal.Value.xRow KernelIdeal.Value.xRow
  rw [ReferenceIdeal.Value.x_found, KernelIdeal.Value.x_found, h]

/-- The columns of the weights agree. -/
theorem wCol_eq (h : m' ((c.tc : Thread ReferenceIdeal.nD ReferenceIdeal.τ).loc ReferenceIdeal.main_arg1)
      = m ((c.tc : Thread KernelIdeal.nD KernelIdeal.τ).loc KernelIdeal.main_arg1)) (b : Fin 8192) :
    ReferenceIdeal.Value.wCol m' c b = KernelIdeal.Value.wCol m c b := by
  unfold ReferenceIdeal.Value.wCol KernelIdeal.Value.wCol
  rw [ReferenceIdeal.Gen.V_main_arg1, KernelIdeal.Gen.V_main_arg1, h]

/-- The columns' scales agree. -/
theorem s_eq (h : m' ((c.tc : Thread ReferenceIdeal.nD ReferenceIdeal.τ).loc ReferenceIdeal.main_arg2)
      = m ((c.tc : Thread KernelIdeal.nD KernelIdeal.τ).loc KernelIdeal.main_arg2)) (j : KernelIdeal.S1x8192.Idx) :
    (ReferenceIdeal.Gen.V m' c ReferenceIdeal.main_v1 : Vec Ideal ReferenceIdeal.S1x8192 .f32) j
      = (KernelIdeal.Gen.V m c KernelIdeal.main_v1 : Vec Ideal KernelIdeal.S1x8192 .f32) j := by
  rw [ReferenceIdeal.Value.s_found, KernelIdeal.Value.s_found, h]

/-- The codes agree. -/
theorem codes_eq (h : m' ((c.tc : Thread ReferenceIdeal.nD ReferenceIdeal.τ).loc ReferenceIdeal.main_arg0)
      = m ((c.tc : Thread KernelIdeal.nD KernelIdeal.τ).loc KernelIdeal.main_arg0)) :
    ReferenceIdeal.Value.allCodes m' c = KernelIdeal.Value.allCodes m c := by
  unfold ReferenceIdeal.Value.allCodes KernelIdeal.Value.allCodes
  funext y
  exact congrArg (fun r : Fin 32768 → EReal => codeOf (r (y 1)) (rowInv r)) (xRow_eq m m' c h (y 0))

/-- The scales agree. -/
theorem scales_eq (h : m' ((c.tc : Thread ReferenceIdeal.nD ReferenceIdeal.τ).loc ReferenceIdeal.main_arg0)
      = m ((c.tc : Thread KernelIdeal.nD KernelIdeal.τ).loc KernelIdeal.main_arg0)) :
    ReferenceIdeal.Value.allScales m' c = KernelIdeal.Value.allScales m c := by
  unfold ReferenceIdeal.Value.allScales KernelIdeal.Value.allScales
  funext y
  exact congrArg rowScale (xRow_eq m m' c h (y 0))

/-- The first results agree. -/
theorem results_eq (h : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2)) :
    ReferenceIdeal.Value.allResults m' c = KernelIdeal.Value.allResults m c := by
  unfold ReferenceIdeal.Value.allResults KernelIdeal.Value.allResults
  funext j
  exact congr (congr (congrArg entry (xRow_eq m m' c h (j 0))) (wCol_eq m m' c h1 (j 1))) (s_eq m m' c h2 (ix2 0 (j 1)))

end Cert.Agree

end
-- ==== Proof.lean ====
module

public import proofs.«01_k».proof.Defs
public import proofs.«01_k».proof.Proof.RunBits.Tracked
public import proofs.«01_k».proof.Proof.Agree

@[expose] public section

open Idealize.ShloMosaic Idealize.SL.Sem

/-- The idealized kernel and the idealized reference end with equal results. -/
theorem Cert.Proof.algebraic : Cert.algebraic_KernelIdeal_ReferenceIdeal
    (hKernelIdeal := Cert.KernelIdeal.Gen.facts) (hReferenceIdeal := Cert.ReferenceIdeal.Gen.facts) :=
  fun m g m' g' _ h => ⟨fun c => Cert.KernelIdeal.Value.allResults m c, fun c => Cert.KernelIdeal.Value.allCodes m c,
    fun c => Cert.KernelIdeal.Value.allScales m c, Cert.KernelIdeal.Value.run m g,
    (θ_run _ _ _).mono (fun _ hr c => ⟨(hr c).1.trans (Cert.Agree.results_eq m m' c (h c).1 (h c).2.1 (h c).2.2),
      (hr c).2.1.trans (Cert.Agree.codes_eq m m' c (h c).1), (hr c).2.2.1.trans (Cert.Agree.scales_eq m m' c (h c).1),
      (hr c).2.2.2⟩) (Cert.ReferenceIdeal.Value.run m' g')⟩

/-- The frames of the kernel, of its idealization and of the idealized reference; the idealization rewrote nothing; the
    idealized kernel and reference end with equal results. -/
theorem Cert.Proof.claim : Cert.Claim :=
  ⟨Cert.Kernel.Gen.facts, Cert.KernelIdeal.Gen.facts, Cert.ReferenceIdeal.Gen.facts,
    fun m ρ _ => Cert.Kernel.Tracked.frame m ρ, fun m ρ _ => Cert.KernelIdeal.Tracked.frame m ρ,
    fun m ρ _ => Cert.ReferenceIdeal.Gen.frame m ρ, trivial, Cert.Proof.algebraic⟩
